-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x512 : Shape := ⟨3, ![2, 256, 512]⟩
abbrev S512x256 : Shape := ⟨2, ![512, 256]⟩
abbrev S2x256x16x64 : Shape := ⟨4, ![2, 256, 16, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x256x16x64 : S_.BroadcastsInDim S2x256x16x64 (![] : Fin 0 → Fin S2x256x16x64.rank)
  reducesTo_S2x256x16x64_S_d0_1_2_3 : S2x256x16x64.ReducesTo [0, 1, 2, 3] S_

variable [Facts]

def fn {F : FTy → Type} [FloatOps F] (main_arg0 : FVec F S2x256x512 .bf16) (main_arg1 : FVec F S512x256 .bf16) (main_arg2 : FVec F S2x256x16x64 .bf16) (main_arg3 : FVec F S2x256x16x64 .bf16) (main_arg4 : FVec F S256x512 .bf16) : IVec S_ 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x256 .bf16 := Host.absf main_arg1
  let main_cst_0 : FVec F S_ .bf16 := constant S_ .bf16 0x7F80#16
  let main_v5 : FVec F S512x256 .bf16 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x256x16x64 .bf16 := Host.absf main_arg2
  let main_cst_2 : FVec F S_ .bf16 := constant S_ .bf16 0x7F80#16
  let main_v10 : FVec F S2x256x16x64 .bf16 := broadcastInDim S2x256x16x64 ![] bcast_S_S2x256x16x64 main_cst_2
  let main_v11 : IVec S2x256x16x64 1 := cmpf .olt main_v9 main_v10
  let main_c_3 : IVec S_ 1 := constantI S_ 1 1#1
  let main_v12 : IVec S_ 1 := (fun x v => Host.reduce IntOp.andi x v reducesTo_S2x256x16x64_S_d0_1_2_3 h_S_) main_v11 main_c_3
  let main_v13 : IVec S_ 1 := andi main_v8 main_v12
  main_v13
-- ==== Pre_finite_ReferenceIdeal.lean ====
abbrev S2x256x512 : Shape := ⟨3, ![2, 256, 512]⟩
abbrev S512x1024 : Shape := ⟨2, ![512, 1024]⟩
abbrev S2x256x16x64 : Shape := ⟨4, ![2, 256, 16, 64]⟩
abbrev S1024x512 : Shape := ⟨2, ![1024, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S2x256x16x64 : S_.BroadcastsInDim S2x256x16x64 (![] : Fin 0 → Fin S2x256x16x64.rank)
  reducesTo_S2x256x16x64_S_d0_1_2_3 : S2x256x16x64.ReducesTo [0, 1, 2, 3] S_

variable [Facts]

def fn {F : FTy → Type} [FloatOps F] (main_arg0 : FVec F S2x256x512 .bf16) (main_arg1 : FVec F S512x1024 .bf16) (main_arg2 : FVec F S2x256x16x64 .bf16) (main_arg3 : FVec F S2x256x16x64 .bf16) (main_arg4 : FVec F S1024x512 .bf16) : IVec S_ 1 :=
  let main_v0 : FVec F S2x256x512 .bf16 := Host.absf main_arg0
  let main_cst : FVec F S_ .bf16 := constant S_ .bf16 0x7F80#16
  let main_v1 : FVec F S2x256x512 .bf16 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S512x1024 .bf16 := Host.absf main_arg1
  let main_cst_0 : FVec F S_ .bf16 := constant S_ .bf16 0x7F80#16
  let main_v5 : FVec F S512x1024 .bf16 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S2x256x16x64 .bf16 := Host.absf main_arg2
  let main_cst_2 : FVec F S_ .bf16 := constant S_ .bf16 0x7F80#16
  let main_v10 : FVec F S2x256x16x64 .bf16 := broadcastInDim S2x256x16x64 ![] bcast_S_S2x256x16x64 main_cst_2
  let main_v11 : IVec S2x256x16x64 1 := cmpf .olt main_v9 main_v10
  let main_c_3 : IVec S_ 1 := constantI S_ 1 1#1
  let main_v12 : IVec S_ 1 := (fun x v => Host.reduce IntOp.andi x v reducesTo_S2x256x16x64_S_d0_1_2_3 h_S_) main_v11 main_c_3
  let main_v13 : IVec S_ 1 := andi main_v8 main_v12
  main_v13
-- ==== Kernel.lean ====
abbrev S2x256x512 : Shape := ⟨3, ![2, 256, 512]⟩
abbrev S512x256 : Shape := ⟨2, ![512, 256]⟩
abbrev S2x256x16x64 : Shape := ⟨4, ![2, 256, 16, 64]⟩
abbrev S256x512 : Shape := ⟨2, ![256, 512]⟩
abbrev S_ : Shape := ⟨0, ![]⟩
abbrev S2x256x4x64 : Shape := ⟨4, ![2, 256, 4, 64]⟩
abbrev S2x256x256 : Shape := ⟨3, ![2, 256, 256]⟩
abbrev S3x128x512 : Shape := ⟨3, ![3, 128, 512]⟩
abbrev S4x128x512 : Shape := ⟨3, ![4, 128, 512]⟩
abbrev S128x512 : Shape := ⟨2, ![128, 512]⟩
abbrev S2x3 : Shape := ⟨2, ![2, 3]⟩
abbrev S2x4 : Shape := ⟨2, ![2, 4]⟩
abbrev S128x256 : Shape := ⟨2, ![128, 256]⟩
abbrev S1x128x512 : Shape := ⟨3, ![1, 128, 512]⟩
abbrev S128x64 : Shape := ⟨2, ![128, 64]⟩
abbrev S1x256x64 : Shape := ⟨3, ![1, 256, 64]⟩
abbrev S256x64 : Shape := ⟨2, ![256, 64]⟩
abbrev S128 : Shape := ⟨1, ![128]⟩
abbrev S128x1 : Shape := ⟨2, ![128, 1]⟩
abbrev S1x1 : Shape := ⟨2, ![1, 1]⟩
abbrev S1x64x512 : Shape := ⟨3, ![1, 64, 512]⟩
abbrev S64x512 : Shape := ⟨2, ![64, 512]⟩

abbrev nBuf : Space → Nat
  | .hbm => 36
  | .vmem => 9
  | .smem => 0
  | _ => 0

abbrev bufTy : (tb : Table) → Fin (tcTables nBuf tb) → BufTy
  | .hbm, ⟨0, _⟩ => ⟨S2x256x512, .bf16⟩
  | .hbm, ⟨1, _⟩ => ⟨S512x256, .bf16⟩
  | .hbm, ⟨2, _⟩ => ⟨S2x256x16x64, .bf16⟩
  | .hbm, ⟨3, _⟩ => ⟨S2x256x16x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x256x4x64, .bf16⟩
  | .hbm, ⟨22, _⟩ => ⟨S2x256x256, .bf16⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S2x256x4x64, .bf16⟩
  | .hbm, ⟨34, _⟩ => ⟨S2x256x256, .bf16⟩
  | .hbm, ⟨35, _⟩ => ⟨S2x256x512, .bf16⟩
  | .local _ .vmem, ⟨0, _⟩ => ⟨S2x256x512, .bf16⟩
  | .local _ .vmem, ⟨1, _⟩ => ⟨S512x256, .bf16⟩
  | .local _ .vmem, ⟨2, _⟩ => ⟨S2x256x256, .bf16⟩
  | .local _ .vmem, ⟨3, _⟩ => ⟨S2x256x256, .bf16⟩
  | .local _ .vmem, ⟨4, _⟩ => ⟨S256x512, .bf16⟩
  | .local _ .vmem, ⟨5, _⟩ => ⟨S2x256x512, .bf16⟩
  | .local _ .vmem, ⟨6, _⟩ => ⟨S3x128x512, .bf16⟩
  | .local _ .vmem, ⟨7, _⟩ => ⟨S4x128x512, .bf16⟩
  | .local _ .vmem, ⟨8, _⟩ => ⟨S128x512, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_v10 : Ref sig .tc := ⟨.hbm, 22, rfl⟩
abbrev main_c_7 : Ref sig .tc := ⟨.hbm, 23, rfl⟩
abbrev main_v11 : Ref sig .tc := ⟨.hbm, 24, rfl⟩
abbrev main_c_8 : Ref sig .tc := ⟨.hbm, 25, rfl⟩
abbrev main_v12 : Ref sig .tc := ⟨.hbm, 26, rfl⟩
abbrev main_c_9 : Ref sig .tc := ⟨.hbm, 27, rfl⟩
abbrev main_v13 : Ref sig .tc := ⟨.hbm, 28, rfl⟩
abbrev main_v14 : Ref sig .tc := ⟨.hbm, 29, rfl⟩
abbrev main_c_10 : Ref sig .tc := ⟨.hbm, 30, rfl⟩
abbrev main_c_11 : Ref sig .tc := ⟨.hbm, 31, rfl⟩
abbrev main_c_12 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_off1 (d0 : Dev nD) (c1_i32_8 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.addi v2 c1_i32_8
  let c4_i32_9 : BitVec 32 := 4#32
  let v34 : BitVec 32 := Scalar.remsi v33 c4_i32_9
  let c0_i32_10 : BitVec 32 := 0#32
  let v36 : BitVec 1 := Scalar.cmpi .sgt v34 c0_i32_10
  let v37 : BitVec 32 := Scalar.extui v36
  let c0_i32_11 : BitVec 32 := 0#32
  let v38 : BitVec 1 := Scalar.cmpi .slt v34 c0_i32_11
  let v39 : BitVec 32 := Scalar.extui v38
  let v40 : BitVec 32 := Scalar.subi v37 v39
  let c2_i32 : BitVec 32 := 2#32
  let c0_i32_12 : BitVec 32 := 0#32
  let v41 : BitVec 1 := Scalar.cmpi .sgt c2_i32 c0_i32_12
  let v42 : BitVec 32 := Scalar.extui v41
  let c0_i32_13 : BitVec 32 := 0#32
  let v43 : BitVec 1 := Scalar.cmpi .slt c2_i32 c0_i32_13
  let v44 : BitVec 32 := Scalar.extui v43
  let v45 : BitVec 32 := Scalar.subi v42 v44
  let v46 : BitVec 1 := Scalar.cmpi .ne v40 v45
  let v47 : BitVec 32 := Scalar.remsi v34 c2_i32
  let c0_i32_14 : BitVec 32 := 0#32
  let v48 : BitVec 1 := Scalar.cmpi .ne v47 c0_i32_14
  let v49 : BitVec 1 := Scalar.andi v46 v48
  let v35 : BitVec 32 := Scalar.divsi v34 c2_i32
  let c1_i32_15 : BitVec 32 := 1#32
  let v50 : BitVec 32 := Scalar.subi v35 c1_i32_15
  let v51 : BitVec 32 := Scalar.select v49 v50 v35
  let v63 : Index := Scalar.indexCast v51
  let c2_i32_16 : BitVec 32 := 2#32
  let c0_i32_17 : BitVec 32 := 0#32
  let v52 : BitVec 1 := Scalar.cmpi .eq c2_i32_16 c0_i32_17
  let c1_i32_18 : BitVec 32 := 1#32
  let v53 : BitVec 32 := Scalar.select v52 c1_i32_18 c2_i32_16
  let v54 : BitVec 32 := Scalar.remsi v34 v53
  let c0_i32_20 : BitVec 32 := 0#32
  let v56 : BitVec 1 := Scalar.cmpi .slt v54 c0_i32_20
  let c0_i32_21 : BitVec 32 := 0#32
  let v57 : BitVec 1 := Scalar.cmpi .slt v53 c0_i32_21
  let v58 : BitVec 1 := Scalar.xori v56 v57
  let c0_i32_19 : BitVec 32 := 0#32
  let v55 : BitVec 1 := Scalar.cmpi .ne v54 c0_i32_19
  let v59 : BitVec 1 := Scalar.andi v58 v55
  let v60 : BitVec 32 := Scalar.addi v54 v53
  let v61 : BitVec 32 := Scalar.select v59 v60 v54
  let c128_i32 : BitVec 32 := 128#32
  let v62 : BitVec 32 := Scalar.muli v61 c128_i32
  let v64 : Index := Scalar.indexCast v62
  let c0_22 : Index := 0#32
  ![v63.toNat, v64.toNat, 0]
def k0_off2 (d0 : Dev nD) (c1_i32_8 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.addi v2 c1_i32_8
  let c4_i32_9 : BitVec 32 := 4#32
  let v34 : BitVec 32 := Scalar.remsi v33 c4_i32_9
  let c0_i32_10 : BitVec 32 := 0#32
  let v36 : BitVec 1 := Scalar.cmpi .sgt v34 c0_i32_10
  let v37 : BitVec 32 := Scalar.extui v36
  let c0_i32_11 : BitVec 32 := 0#32
  let v38 : BitVec 1 := Scalar.cmpi .slt v34 c0_i32_11
  let v39 : BitVec 32 := Scalar.extui v38
  let v40 : BitVec 32 := Scalar.subi v37 v39
  let c2_i32 : BitVec 32 := 2#32
  let c0_i32_12 : BitVec 32 := 0#32
  let v41 : BitVec 1 := Scalar.cmpi .sgt c2_i32 c0_i32_12
  let v42 : BitVec 32 := Scalar.extui v41
  let c0_i32_13 : BitVec 32 := 0#32
  let v43 : BitVec 1 := Scalar.cmpi .slt c2_i32 c0_i32_13
  let v44 : BitVec 32 := Scalar.extui v43
  let v45 : BitVec 32 := Scalar.subi v42 v44
  let v46 : BitVec 1 := Scalar.cmpi .ne v40 v45
  let v47 : BitVec 32 := Scalar.remsi v34 c2_i32
  let c0_i32_14 : BitVec 32 := 0#32
  let v48 : BitVec 1 := Scalar.cmpi .ne v47 c0_i32_14
  let v49 : BitVec 1 := Scalar.andi v46 v48
  let v35 : BitVec 32 := Scalar.divsi v34 c2_i32
  let c1_i32_15 : BitVec 32 := 1#32
  let v50 : BitVec 32 := Scalar.subi v35 c1_i32_15
  let v51 : BitVec 32 := Scalar.select v49 v50 v35
  let v97 : Index := Scalar.indexCast v51
  let c0_30 : Index := 0#32
  let c0_31 : Index := 0#32
  ![v97.toNat, 0, 0]
def k0_off3 (d0 : Dev nD) (c1_i32_8 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.addi v2 c1_i32_8
  let c4_i32_9 : BitVec 32 := 4#32
  let v34 : BitVec 32 := Scalar.remsi v33 c4_i32_9
  let c0_i32_10 : BitVec 32 := 0#32
  let v36 : BitVec 1 := Scalar.cmpi .sgt v34 c0_i32_10
  let v37 : BitVec 32 := Scalar.extui v36
  let c0_i32_11 : BitVec 32 := 0#32
  let v38 : BitVec 1 := Scalar.cmpi .slt v34 c0_i32_11
  let v39 : BitVec 32 := Scalar.extui v38
  let v40 : BitVec 32 := Scalar.subi v37 v39
  let c2_i32 : BitVec 32 := 2#32
  let c0_i32_12 : BitVec 32 := 0#32
  let v41 : BitVec 1 := Scalar.cmpi .sgt c2_i32 c0_i32_12
  let v42 : BitVec 32 := Scalar.extui v41
  let c0_i32_13 : BitVec 32 := 0#32
  let v43 : BitVec 1 := Scalar.cmpi .slt c2_i32 c0_i32_13
  let v44 : BitVec 32 := Scalar.extui v43
  let v45 : BitVec 32 := Scalar.subi v42 v44
  let v46 : BitVec 1 := Scalar.cmpi .ne v40 v45
  let v47 : BitVec 32 := Scalar.remsi v34 c2_i32
  let c0_i32_14 : BitVec 32 := 0#32
  let v48 : BitVec 1 := Scalar.cmpi .ne v47 c0_i32_14
  let v49 : BitVec 1 := Scalar.andi v46 v48
  let v35 : BitVec 32 := Scalar.divsi v34 c2_i32
  let c1_i32_15 : BitVec 32 := 1#32
  let v50 : BitVec 32 := Scalar.subi v35 c1_i32_15
  let v51 : BitVec 32 := Scalar.select v49 v50 v35
  let v117 : Index := Scalar.indexCast v51
  let c0_39 : Index := 0#32
  let c64 : Index := 64#32
  ![v117.toNat, 0, 64]
def k0_off4 (d0 : Dev nD) (c1_i32_8 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.addi v2 c1_i32_8
  let c4_i32_9 : BitVec 32 := 4#32
  let v34 : BitVec 32 := Scalar.remsi v33 c4_i32_9
  let c0_i32_10 : BitVec 32 := 0#32
  let v36 : BitVec 1 := Scalar.cmpi .sgt v34 c0_i32_10
  let v37 : BitVec 32 := Scalar.extui v36
  let c0_i32_11 : BitVec 32 := 0#32
  let v38 : BitVec 1 := Scalar.cmpi .slt v34 c0_i32_11
  let v39 : BitVec 32 := Scalar.extui v38
  let v40 : BitVec 32 := Scalar.subi v37 v39
  let c2_i32 : BitVec 32 := 2#32
  let c0_i32_12 : BitVec 32 := 0#32
  let v41 : BitVec 1 := Scalar.cmpi .sgt c2_i32 c0_i32_12
  let v42 : BitVec 32 := Scalar.extui v41
  let c0_i32_13 : BitVec 32 := 0#32
  let v43 : BitVec 1 := Scalar.cmpi .slt c2_i32 c0_i32_13
  let v44 : BitVec 32 := Scalar.extui v43
  let v45 : BitVec 32 := Scalar.subi v42 v44
  let v46 : BitVec 1 := Scalar.cmpi .ne v40 v45
  let v47 : BitVec 32 := Scalar.remsi v34 c2_i32
  let c0_i32_14 : BitVec 32 := 0#32
  let v48 : BitVec 1 := Scalar.cmpi .ne v47 c0_i32_14
  let v49 : BitVec 1 := Scalar.andi v46 v48
  let v35 : BitVec 32 := Scalar.divsi v34 c2_i32
  let c1_i32_15 : BitVec 32 := 1#32
  let v50 : BitVec 32 := Scalar.subi v35 c1_i32_15
  let v51 : BitVec 32 := Scalar.select v49 v50 v35
  let v137 : Index := Scalar.indexCast v51
  let c0_47 : Index := 0#32
  let c128 : Index := 128#32
  ![v137.toNat, 0, 128]
def k0_off5 (d0 : Dev nD) (c1_i32_8 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.addi v2 c1_i32_8
  let c4_i32_9 : BitVec 32 := 4#32
  let v34 : BitVec 32 := Scalar.remsi v33 c4_i32_9
  let c0_i32_10 : BitVec 32 := 0#32
  let v36 : BitVec 1 := Scalar.cmpi .sgt v34 c0_i32_10
  let v37 : BitVec 32 := Scalar.extui v36
  let c0_i32_11 : BitVec 32 := 0#32
  let v38 : BitVec 1 := Scalar.cmpi .slt v34 c0_i32_11
  let v39 : BitVec 32 := Scalar.extui v38
  let v40 : BitVec 32 := Scalar.subi v37 v39
  let c2_i32 : BitVec 32 := 2#32
  let c0_i32_12 : BitVec 32 := 0#32
  let v41 : BitVec 1 := Scalar.cmpi .sgt c2_i32 c0_i32_12
  let v42 : BitVec 32 := Scalar.extui v41
  let c0_i32_13 : BitVec 32 := 0#32
  let v43 : BitVec 1 := Scalar.cmpi .slt c2_i32 c0_i32_13
  let v44 : BitVec 32 := Scalar.extui v43
  let v45 : BitVec 32 := Scalar.subi v42 v44
  let v46 : BitVec 1 := Scalar.cmpi .ne v40 v45
  let v47 : BitVec 32 := Scalar.remsi v34 c2_i32
  let c0_i32_14 : BitVec 32 := 0#32
  let v48 : BitVec 1 := Scalar.cmpi .ne v47 c0_i32_14
  let v49 : BitVec 1 := Scalar.andi v46 v48
  let v35 : BitVec 32 := Scalar.divsi v34 c2_i32
  let c1_i32_15 : BitVec 32 := 1#32
  let v50 : BitVec 32 := Scalar.subi v35 c1_i32_15
  let v51 : BitVec 32 := Scalar.select v49 v50 v35
  let v157 : Index := Scalar.indexCast v51
  let c0_55 : Index := 0#32
  let c192 : Index := 192#32
  ![v157.toNat, 0, 192]
def k0_dev1 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_67 : BitVec 32 := 1#32
  let v183 : BitVec 32 := Scalar.addi v2 c1_i32_67
  let c4_i32_68 : BitVec 32 := 4#32
  let v184 : BitVec 32 := Scalar.remsi v183 c4_i32_68
  let c1_i32_70 : BitVec 32 := 1#32
  let v185 : BitVec 32 := Scalar.muli v184 c1_i32_70
  let v186 : BitVec 32 := Scalar.addi c0_i32_71 v185
  v186.toNat
def k0_dev2 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_72 : BitVec 32 := 2#32
  let v187 : BitVec 32 := Scalar.addi v2 c2_i32_72
  let c4_i32_73 : BitVec 32 := 4#32
  let v188 : BitVec 32 := Scalar.remsi v187 c4_i32_73
  let c1_i32_75 : BitVec 32 := 1#32
  let v189 : BitVec 32 := Scalar.muli v188 c1_i32_75
  let v190 : BitVec 32 := Scalar.addi c0_i32_76 v189
  v190.toNat
def k0_dev3 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v191 : BitVec 32 := Scalar.addi v2 c3_i32
  let c4_i32_77 : BitVec 32 := 4#32
  let v192 : BitVec 32 := Scalar.remsi v191 c4_i32_77
  let c1_i32_79 : BitVec 32 := 1#32
  let v193 : BitVec 32 := Scalar.muli v192 c1_i32_79
  let v194 : BitVec 32 := Scalar.addi c0_i32_80 v193
  v194.toNat
def k0_dev4 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v33 : BitVec 32 := Scalar.addi v2 c1_i32_8
  let c4_i32_9 : BitVec 32 := 4#32
  let v34 : BitVec 32 := Scalar.remsi v33 c4_i32_9
  let c1_i32_88 : BitVec 32 := 1#32
  let v195 : BitVec 32 := Scalar.muli v34 c1_i32_88
  let v196 : BitVec 32 := Scalar.addi c0_i32_89 v195
  v196.toNat
def k0_dev5 (d0 : Dev nD) : Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v33 : BitVec 32 := Scalar.addi v2 c1_i32_8
  let c4_i32_9 : BitVec 32 := 4#32
  let v34 : BitVec 32 := Scalar.remsi v33 c4_i32_9
  let c1_i32_100 : BitVec 32 := 1#32
  let v205 : BitVec 32 := Scalar.muli v34 c1_i32_100
  let v206 : BitVec 32 := Scalar.addi c0_i32_101 v205
  v206.toNat
def k0_dev6 (d0 : Dev nD) : Nat :=
  let c0_i32_177 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_106 : BitVec 32 := 2#32
  let v215 : BitVec 32 := Scalar.addi v2 c2_i32_106
  let c4_i32_107 : BitVec 32 := 4#32
  let v216 : BitVec 32 := Scalar.remsi v215 c4_i32_107
  let c1_i32_176 : BitVec 32 := 1#32
  let v364 : BitVec 32 := Scalar.muli v216 c1_i32_176
  let v365 : BitVec 32 := Scalar.addi c0_i32_177 v364
  v365.toNat
def k0_dev7 (d0 : Dev nD) : Nat :=
  let c0_i32_189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_106 : BitVec 32 := 2#32
  let v215 : BitVec 32 := Scalar.addi v2 c2_i32_106
  let c4_i32_107 : BitVec 32 := 4#32
  let v216 : BitVec 32 := Scalar.remsi v215 c4_i32_107
  let c1_i32_188 : BitVec 32 := 1#32
  let v374 : BitVec 32 := Scalar.muli v216 c1_i32_188
  let v375 : BitVec 32 := Scalar.addi c0_i32_189 v374
  v375.toNat
def k0_dev8 (d0 : Dev nD) : Nat :=
  let c0_i32_265 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_194 : BitVec 32 := 3#32
  let v384 : BitVec 32 := Scalar.addi v2 c3_i32_194
  let c4_i32_195 : BitVec 32 := 4#32
  let v385 : BitVec 32 := Scalar.remsi v384 c4_i32_195
  let c1_i32_264 : BitVec 32 := 1#32
  let v533 : BitVec 32 := Scalar.muli v385 c1_i32_264
  let v534 : BitVec 32 := Scalar.addi c0_i32_265 v533
  v534.toNat
def k0_dev9 (d0 : Dev nD) : Nat :=
  let c0_i32_277 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_194 : BitVec 32 := 3#32
  let v384 : BitVec 32 := Scalar.addi v2 c3_i32_194
  let c4_i32_195 : BitVec 32 := 4#32
  let v385 : BitVec 32 := Scalar.remsi v384 c4_i32_195
  let c1_i32_276 : BitVec 32 := 1#32
  let v543 : BitVec 32 := Scalar.muli v385 c1_i32_276
  let v544 : BitVec 32 := Scalar.addi c0_i32_277 v543
  v544.toNat
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_283 : BitVec 32 := 0#32
  let v554 : BitVec 1 := Scalar.cmpi .sgt v2 c0_i32_283
  let v555 : BitVec 32 := Scalar.extui v554
  let c0_i32_284 : BitVec 32 := 0#32
  let v556 : BitVec 1 := Scalar.cmpi .slt v2 c0_i32_284
  let v557 : BitVec 32 := Scalar.extui v556
  let v558 : BitVec 32 := Scalar.subi v555 v557
  let c2_i32_282 : BitVec 32 := 2#32
  let c0_i32_285 : BitVec 32 := 0#32
  let v559 : BitVec 1 := Scalar.cmpi .sgt c2_i32_282 c0_i32_285
  let v560 : BitVec 32 := Scalar.extui v559
  let c0_i32_286 : BitVec 32 := 0#32
  let v561 : BitVec 1 := Scalar.cmpi .slt c2_i32_282 c0_i32_286
  let v562 : BitVec 32 := Scalar.extui v561
  let v563 : BitVec 32 := Scalar.subi v560 v562
  let v564 : BitVec 1 := Scalar.cmpi .ne v558 v563
  let v565 : BitVec 32 := Scalar.remsi v2 c2_i32_282
  let c0_i32_287 : BitVec 32 := 0#32
  let v566 : BitVec 1 := Scalar.cmpi .ne v565 c0_i32_287
  let v567 : BitVec 1 := Scalar.andi v564 v566
  let v553 : BitVec 32 := Scalar.divsi v2 c2_i32_282
  let c1_i32_288 : BitVec 32 := 1#32
  let v568 : BitVec 32 := Scalar.subi v553 c1_i32_288
  let v569 : BitVec 32 := Scalar.select v567 v568 v553
  let v581 : Index := Scalar.indexCast v569
  let c2_i32_289 : BitVec 32 := 2#32
  let c0_i32_290 : BitVec 32 := 0#32
  let v570 : BitVec 1 := Scalar.cmpi .eq c2_i32_289 c0_i32_290
  let c1_i32_291 : BitVec 32 := 1#32
  let v571 : BitVec 32 := Scalar.select v570 c1_i32_291 c2_i32_289
  let v572 : BitVec 32 := Scalar.remsi v2 v571
  let c0_i32_293 : BitVec 32 := 0#32
  let v574 : BitVec 1 := Scalar.cmpi .slt v572 c0_i32_293
  let c0_i32_294 : BitVec 32 := 0#32
  let v575 : BitVec 1 := Scalar.cmpi .slt v571 c0_i32_294
  let v576 : BitVec 1 := Scalar.xori v574 v575
  let c0_i32_292 : BitVec 32 := 0#32
  let v573 : BitVec 1 := Scalar.cmpi .ne v572 c0_i32_292
  let v577 : BitVec 1 := Scalar.andi v576 v573
  let v578 : BitVec 32 := Scalar.addi v572 v571
  let v579 : BitVec 32 := Scalar.select v577 v578 v572
  let c128_i32_295 : BitVec 32 := 128#32
  let v580 : BitVec 32 := Scalar.muli v579 c128_i32_295
  let v582 : Index := Scalar.indexCast v580
  let c0_296 : Index := 0#32
  ![v581.toNat, v582.toNat, 0]
def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_283 : BitVec 32 := 0#32
  let v554 : BitVec 1 := Scalar.cmpi .sgt v2 c0_i32_283
  let v555 : BitVec 32 := Scalar.extui v554
  let c0_i32_284 : BitVec 32 := 0#32
  let v556 : BitVec 1 := Scalar.cmpi .slt v2 c0_i32_284
  let v557 : BitVec 32 := Scalar.extui v556
  let v558 : BitVec 32 := Scalar.subi v555 v557
  let c2_i32_282 : BitVec 32 := 2#32
  let c0_i32_285 : BitVec 32 := 0#32
  let v559 : BitVec 1 := Scalar.cmpi .sgt c2_i32_282 c0_i32_285
  let v560 : BitVec 32 := Scalar.extui v559
  let c0_i32_286 : BitVec 32 := 0#32
  let v561 : BitVec 1 := Scalar.cmpi .slt c2_i32_282 c0_i32_286
  let v562 : BitVec 32 := Scalar.extui v561
  let v563 : BitVec 32 := Scalar.subi v560 v562
  let v564 : BitVec 1 := Scalar.cmpi .ne v558 v563
  let v565 : BitVec 32 := Scalar.remsi v2 c2_i32_282
  let c0_i32_287 : BitVec 32 := 0#32
  let v566 : BitVec 1 := Scalar.cmpi .ne v565 c0_i32_287
  let v567 : BitVec 1 := Scalar.andi v564 v566
  let v553 : BitVec 32 := Scalar.divsi v2 c2_i32_282
  let c1_i32_288 : BitVec 32 := 1#32
  let v568 : BitVec 32 := Scalar.subi v553 c1_i32_288
  let v569 : BitVec 32 := Scalar.select v567 v568 v553
  let v615 : Index := Scalar.indexCast v569
  let c0_305 : Index := 0#32
  let c0_306 : Index := 0#32
  ![v615.toNat, 0, 0]
def k0_off8 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_283 : BitVec 32 := 0#32
  let v554 : BitVec 1 := Scalar.cmpi .sgt v2 c0_i32_283
  let v555 : BitVec 32 := Scalar.extui v554
  let c0_i32_284 : BitVec 32 := 0#32
  let v556 : BitVec 1 := Scalar.cmpi .slt v2 c0_i32_284
  let v557 : BitVec 32 := Scalar.extui v556
  let v558 : BitVec 32 := Scalar.subi v555 v557
  let c2_i32_282 : BitVec 32 := 2#32
  let c0_i32_285 : BitVec 32 := 0#32
  let v559 : BitVec 1 := Scalar.cmpi .sgt c2_i32_282 c0_i32_285
  let v560 : BitVec 32 := Scalar.extui v559
  let c0_i32_286 : BitVec 32 := 0#32
  let v561 : BitVec 1 := Scalar.cmpi .slt c2_i32_282 c0_i32_286
  let v562 : BitVec 32 := Scalar.extui v561
  let v563 : BitVec 32 := Scalar.subi v560 v562
  let v564 : BitVec 1 := Scalar.cmpi .ne v558 v563
  let v565 : BitVec 32 := Scalar.remsi v2 c2_i32_282
  let c0_i32_287 : BitVec 32 := 0#32
  let v566 : BitVec 1 := Scalar.cmpi .ne v565 c0_i32_287
  let v567 : BitVec 1 := Scalar.andi v564 v566
  let v553 : BitVec 32 := Scalar.divsi v2 c2_i32_282
  let c1_i32_288 : BitVec 32 := 1#32
  let v568 : BitVec 32 := Scalar.subi v553 c1_i32_288
  let v569 : BitVec 32 := Scalar.select v567 v568 v553
  let v635 : Index := Scalar.indexCast v569
  let c0_314 : Index := 0#32
  let c64_315 : Index := 64#32
  ![v635.toNat, 0, 64]
def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_283 : BitVec 32 := 0#32
  let v554 : BitVec 1 := Scalar.cmpi .sgt v2 c0_i32_283
  let v555 : BitVec 32 := Scalar.extui v554
  let c0_i32_284 : BitVec 32 := 0#32
  let v556 : BitVec 1 := Scalar.cmpi .slt v2 c0_i32_284
  let v557 : BitVec 32 := Scalar.extui v556
  let v558 : BitVec 32 := Scalar.subi v555 v557
  let c2_i32_282 : BitVec 32 := 2#32
  let c0_i32_285 : BitVec 32 := 0#32
  let v559 : BitVec 1 := Scalar.cmpi .sgt c2_i32_282 c0_i32_285
  let v560 : BitVec 32 := Scalar.extui v559
  let c0_i32_286 : BitVec 32 := 0#32
  let v561 : BitVec 1 := Scalar.cmpi .slt c2_i32_282 c0_i32_286
  let v562 : BitVec 32 := Scalar.extui v561
  let v563 : BitVec 32 := Scalar.subi v560 v562
  let v564 : BitVec 1 := Scalar.cmpi .ne v558 v563
  let v565 : BitVec 32 := Scalar.remsi v2 c2_i32_282
  let c0_i32_287 : BitVec 32 := 0#32
  let v566 : BitVec 1 := Scalar.cmpi .ne v565 c0_i32_287
  let v567 : BitVec 1 := Scalar.andi v564 v566
  let v553 : BitVec 32 := Scalar.divsi v2 c2_i32_282
  let c1_i32_288 : BitVec 32 := 1#32
  let v568 : BitVec 32 := Scalar.subi v553 c1_i32_288
  let v569 : BitVec 32 := Scalar.select v567 v568 v553
  let v655 : Index := Scalar.indexCast v569
  let c0_323 : Index := 0#32
  let c128_324 : Index := 128#32
  ![v655.toNat, 0, 128]
def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_283 : BitVec 32 := 0#32
  let v554 : BitVec 1 := Scalar.cmpi .sgt v2 c0_i32_283
  let v555 : BitVec 32 := Scalar.extui v554
  let c0_i32_284 : BitVec 32 := 0#32
  let v556 : BitVec 1 := Scalar.cmpi .slt v2 c0_i32_284
  let v557 : BitVec 32 := Scalar.extui v556
  let v558 : BitVec 32 := Scalar.subi v555 v557
  let c2_i32_282 : BitVec 32 := 2#32
  let c0_i32_285 : BitVec 32 := 0#32
  let v559 : BitVec 1 := Scalar.cmpi .sgt c2_i32_282 c0_i32_285
  let v560 : BitVec 32 := Scalar.extui v559
  let c0_i32_286 : BitVec 32 := 0#32
  let v561 : BitVec 1 := Scalar.cmpi .slt c2_i32_282 c0_i32_286
  let v562 : BitVec 32 := Scalar.extui v561
  let v563 : BitVec 32 := Scalar.subi v560 v562
  let v564 : BitVec 1 := Scalar.cmpi .ne v558 v563
  let v565 : BitVec 32 := Scalar.remsi v2 c2_i32_282
  let c0_i32_287 : BitVec 32 := 0#32
  let v566 : BitVec 1 := Scalar.cmpi .ne v565 c0_i32_287
  let v567 : BitVec 1 := Scalar.andi v564 v566
  let v553 : BitVec 32 := Scalar.divsi v2 c2_i32_282
  let c1_i32_288 : BitVec 32 := 1#32
  let v568 : BitVec 32 := Scalar.subi v553 c1_i32_288
  let v569 : BitVec 32 := Scalar.select v567 v568 v553
  let v675 : Index := Scalar.indexCast v569
  let c0_332 : Index := 0#32
  let c192_333 : Index := 192#32
  ![v675.toNat, 0, 192]
def k0_off11 (d0 : Dev nD) (c0_i32_400 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_343 : BitVec 32 := 0#32
  let v698 : BitVec 1 := Scalar.cmpi .sgt v2 c0_i32_343
  let v699 : BitVec 32 := Scalar.extui v698
  let c0_i32_344 : BitVec 32 := 0#32
  let v700 : BitVec 1 := Scalar.cmpi .slt v2 c0_i32_344
  let v701 : BitVec 32 := Scalar.extui v700
  let v702 : BitVec 32 := Scalar.subi v699 v701
  let c2_i32_342 : BitVec 32 := 2#32
  let c0_i32_345 : BitVec 32 := 0#32
  let v703 : BitVec 1 := Scalar.cmpi .sgt c2_i32_342 c0_i32_345
  let v704 : BitVec 32 := Scalar.extui v703
  let c0_i32_346 : BitVec 32 := 0#32
  let v705 : BitVec 1 := Scalar.cmpi .slt c2_i32_342 c0_i32_346
  let v706 : BitVec 32 := Scalar.extui v705
  let v707 : BitVec 32 := Scalar.subi v704 v706
  let v708 : BitVec 1 := Scalar.cmpi .ne v702 v707
  let v709 : BitVec 32 := Scalar.remsi v2 c2_i32_342
  let c0_i32_347 : BitVec 32 := 0#32
  let v710 : BitVec 1 := Scalar.cmpi .ne v709 c0_i32_347
  let v711 : BitVec 1 := Scalar.andi v708 v710
  let v697 : BitVec 32 := Scalar.divsi v2 c2_i32_342
  let c1_i32_348 : BitVec 32 := 1#32
  let v712 : BitVec 32 := Scalar.subi v697 c1_i32_348
  let v713 : BitVec 32 := Scalar.select v711 v712 v697
  let v760 : Index := Scalar.indexCast v713
  let c2_i32_349 : BitVec 32 := 2#32
  let c0_i32_350 : BitVec 32 := 0#32
  let v714 : BitVec 1 := Scalar.cmpi .eq c2_i32_349 c0_i32_350
  let c1_i32_351 : BitVec 32 := 1#32
  let v715 : BitVec 32 := Scalar.select v714 c1_i32_351 c2_i32_349
  let v716 : BitVec 32 := Scalar.remsi v2 v715
  let c0_i32_353 : BitVec 32 := 0#32
  let v718 : BitVec 1 := Scalar.cmpi .slt v716 c0_i32_353
  let c0_i32_354 : BitVec 32 := 0#32
  let v719 : BitVec 1 := Scalar.cmpi .slt v715 c0_i32_354
  let v720 : BitVec 1 := Scalar.xori v718 v719
  let c0_i32_352 : BitVec 32 := 0#32
  let v717 : BitVec 1 := Scalar.cmpi .ne v716 c0_i32_352
  let v721 : BitVec 1 := Scalar.andi v720 v717
  let v722 : BitVec 32 := Scalar.addi v716 v715
  let v723 : BitVec 32 := Scalar.select v721 v722 v716
  let c128_i32_355 : BitVec 32 := 128#32
  let v724 : BitVec 32 := Scalar.muli v723 c128_i32_355
  let v759 : BitVec 32 := Scalar.addi v724 c0_i32_400
  let v761 : Index := Scalar.indexCast v759
  let c0_401 : Index := 0#32
  ![v760.toNat, v761.toNat, 0]
def k0_off12 (d0 : Dev nD) (c0_i32_403 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_343 : BitVec 32 := 0#32
  let v698 : BitVec 1 := Scalar.cmpi .sgt v2 c0_i32_343
  let v699 : BitVec 32 := Scalar.extui v698
  let c0_i32_344 : BitVec 32 := 0#32
  let v700 : BitVec 1 := Scalar.cmpi .slt v2 c0_i32_344
  let v701 : BitVec 32 := Scalar.extui v700
  let v702 : BitVec 32 := Scalar.subi v699 v701
  let c2_i32_342 : BitVec 32 := 2#32
  let c0_i32_345 : BitVec 32 := 0#32
  let v703 : BitVec 1 := Scalar.cmpi .sgt c2_i32_342 c0_i32_345
  let v704 : BitVec 32 := Scalar.extui v703
  let c0_i32_346 : BitVec 32 := 0#32
  let v705 : BitVec 1 := Scalar.cmpi .slt c2_i32_342 c0_i32_346
  let v706 : BitVec 32 := Scalar.extui v705
  let v707 : BitVec 32 := Scalar.subi v704 v706
  let v708 : BitVec 1 := Scalar.cmpi .ne v702 v707
  let v709 : BitVec 32 := Scalar.remsi v2 c2_i32_342
  let c0_i32_347 : BitVec 32 := 0#32
  let v710 : BitVec 1 := Scalar.cmpi .ne v709 c0_i32_347
  let v711 : BitVec 1 := Scalar.andi v708 v710
  let v697 : BitVec 32 := Scalar.divsi v2 c2_i32_342
  let c1_i32_348 : BitVec 32 := 1#32
  let v712 : BitVec 32 := Scalar.subi v697 c1_i32_348
  let v713 : BitVec 32 := Scalar.select v711 v712 v697
  let c2_i32_349 : BitVec 32 := 2#32
  let c0_i32_350 : BitVec 32 := 0#32
  let v714 : BitVec 1 := Scalar.cmpi .eq c2_i32_349 c0_i32_350
  let c1_i32_351 : BitVec 32 := 1#32
  let v715 : BitVec 32 := Scalar.select v714 c1_i32_351 c2_i32_349
  let v716 : BitVec 32 := Scalar.remsi v2 v715
  let c0_i32_353 : BitVec 32 := 0#32
  let v718 : BitVec 1 := Scalar.cmpi .slt v716 c0_i32_353
  let c0_i32_354 : BitVec 32 := 0#32
  let v719 : BitVec 1 := Scalar.cmpi .slt v715 c0_i32_354
  let v720 : BitVec 1 := Scalar.xori v718 v719
  let c0_i32_352 : BitVec 32 := 0#32
  let v717 : BitVec 1 := Scalar.cmpi .ne v716 c0_i32_352
  let v721 : BitVec 1 := Scalar.andi v720 v717
  let v722 : BitVec 32 := Scalar.addi v716 v715
  let v723 : BitVec 32 := Scalar.select v721 v722 v716
  let c128_i32_355 : BitVec 32 := 128#32
  let v724 : BitVec 32 := Scalar.muli v723 c128_i32_355
  let v766 : BitVec 32 := Scalar.addi v724 c0_i32_403
  let c0_i32_412 : BitVec 32 := 0#32
  ![v713.toNat, v766.toNat, 0]
def k0_dev10 (d0 : Dev nD) : Nat :=
  let c0_i32_411 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_404 : BitVec 32 := 1#32
  let v767 : BitVec 32 := Scalar.addi v2 c1_i32_404
  let c4_i32_405 : BitVec 32 := 4#32
  let v768 : BitVec 32 := Scalar.remsi v767 c4_i32_405
  let c1_i32_410 : BitVec 32 := 1#32
  let v769 : BitVec 32 := Scalar.muli v768 c1_i32_410
  let v770 : BitVec 32 := Scalar.addi c0_i32_411 v769
  v770.toNat
def k0_dev11 (d0 : Dev nD) : Nat :=
  let c0_i32_423 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_416 : BitVec 32 := 2#32
  let v781 : BitVec 32 := Scalar.addi v2 c2_i32_416
  let c4_i32_417 : BitVec 32 := 4#32
  let v782 : BitVec 32 := Scalar.remsi v781 c4_i32_417
  let c1_i32_422 : BitVec 32 := 1#32
  let v783 : BitVec 32 := Scalar.muli v782 c1_i32_422
  let v784 : BitVec 32 := Scalar.addi c0_i32_423 v783
  v784.toNat
def k0_dev12 (d0 : Dev nD) : Nat :=
  let c0_i32_435 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_428 : BitVec 32 := 3#32
  let v795 : BitVec 32 := Scalar.addi v2 c3_i32_428
  let c4_i32_429 : BitVec 32 := 4#32
  let v796 : BitVec 32 := Scalar.remsi v795 c4_i32_429
  let c1_i32_434 : BitVec 32 := 1#32
  let v797 : BitVec 32 := Scalar.muli v796 c1_i32_434
  let v798 : BitVec 32 := Scalar.addi c0_i32_435 v797
  v798.toNat
def k0_dev13 (d0 : Dev nD) : Nat :=
  let c0_i32_494 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_487 : BitVec 32 := 1#32
  let v849 : BitVec 32 := Scalar.addi v2 c1_i32_487
  let c4_i32_488 : BitVec 32 := 4#32
  let v850 : BitVec 32 := Scalar.remsi v849 c4_i32_488
  let c1_i32_493 : BitVec 32 := 1#32
  let v851 : BitVec 32 := Scalar.muli v850 c1_i32_493
  let v852 : BitVec 32 := Scalar.addi c0_i32_494 v851
  v852.toNat
def k0_dev14 (d0 : Dev nD) : Nat :=
  let c0_i32_506 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_499 : BitVec 32 := 2#32
  let v863 : BitVec 32 := Scalar.addi v2 c2_i32_499
  let c4_i32_500 : BitVec 32 := 4#32
  let v864 : BitVec 32 := Scalar.remsi v863 c4_i32_500
  let c1_i32_505 : BitVec 32 := 1#32
  let v865 : BitVec 32 := Scalar.muli v864 c1_i32_505
  let v866 : BitVec 32 := Scalar.addi c0_i32_506 v865
  v866.toNat
def k0_dev15 (d0 : Dev nD) : Nat :=
  let c0_i32_518 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_511 : BitVec 32 := 3#32
  let v877 : BitVec 32 := Scalar.addi v2 c3_i32_511
  let c4_i32_512 : BitVec 32 := 4#32
  let v878 : BitVec 32 := Scalar.remsi v877 c4_i32_512
  let c1_i32_517 : BitVec 32 := 1#32
  let v879 : BitVec 32 := Scalar.muli v878 c1_i32_517
  let v880 : BitVec 32 := Scalar.addi c0_i32_518 v879
  v880.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x1024 : Shape := ⟨2, ![512, 1024]⟩
abbrev S2x256x16x64 : Shape := ⟨4, ![2, 256, 16, 64]⟩
abbrev S1024x512 : Shape := ⟨2, ![1024, 512]⟩
abbrev S2x256x1024 : Shape := ⟨3, ![2, 256, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2x16x256x256 : Shape := ⟨4, ![2, 16, 256, 256]⟩
abbrev S1x1x256x256 : Shape := ⟨4, ![1, 1, 256, 256]⟩
abbrev S2x16x256 : Shape := ⟨3, ![2, 16, 256]⟩
abbrev S2x16x256x1 : Shape := ⟨4, ![2, 16, 256, 1]⟩
abbrev S1x1x256x1 : Shape := ⟨4, ![1, 1, 256, 1]⟩
abbrev S2x16x64x256 : Shape := ⟨4, ![2, 16, 64, 256]⟩

abbrev nBuf : Space → Nat
  | .hbm => 95
  | .vmem => 0
  | .smem => 0
  | _ => 0

abbrev bufTy : (tb : Table) → Fin (tcTables nBuf tb) → BufTy
  | .hbm, ⟨0, _⟩ => ⟨S2x256x512, .bf16⟩
  | .hbm, ⟨1, _⟩ => ⟨S512x1024, .bf16⟩
  | .hbm, ⟨2, _⟩ => ⟨S2x256x16x64, .bf16⟩
  | .hbm, ⟨3, _⟩ => ⟨S2x256x16x64, .bf16⟩
  | .hbm, ⟨4, _⟩ => ⟨S1024x512, .bf16⟩
  | .hbm, ⟨5, _⟩ => ⟨S2x256x1024, .f32⟩
  | .hbm, ⟨6, _⟩ => ⟨S2x256x1024, .bf16⟩
  | .hbm, ⟨7, _⟩ => ⟨S2x256x16x64, .bf16⟩
  | .hbm, ⟨8, _⟩ => ⟨S256, .i32⟩
  | .hbm, ⟨9, _⟩ => ⟨S_, .i32⟩
  | .hbm, ⟨10, _⟩ => ⟨S_, .i32⟩
  | .hbm, ⟨11, _⟩ => ⟨S256, .i32⟩
  | .hbm, ⟨12, _⟩ => ⟨S256, .i32⟩
  | .hbm, ⟨13, _⟩ => ⟨S256, .i32⟩
  | .hbm, ⟨14, _⟩ => ⟨S_, .i32⟩
  | .hbm, ⟨15, _⟩ => ⟨S256, .i32⟩
  | .hbm, ⟨16, _⟩ => ⟨S256, .i1⟩
  | .hbm, ⟨17, _⟩ => ⟨S256, .i32⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i1⟩
  | .hbm, ⟨22, _⟩ => ⟨S256, .i1⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S256, .i32⟩
  | .hbm, ⟨27, _⟩ => ⟨S256x1, .i32⟩
  | .hbm, ⟨28, _⟩ => ⟨S256, .i32⟩
  | .hbm, ⟨29, _⟩ => ⟨S_, .i32⟩
  | .hbm, ⟨30, _⟩ => ⟨S_, .i32⟩
  | .hbm, ⟨31, _⟩ => ⟨S256, .i32⟩
  | .hbm, ⟨32, _⟩ => ⟨S256, .i32⟩
  | .hbm, ⟨33, _⟩ => ⟨S256, .i32⟩
  | .hbm, ⟨34, _⟩ => ⟨S_, .i32⟩
  | .hbm, ⟨35, _⟩ => ⟨S256, .i32⟩
  | .hbm, ⟨36, _⟩ => ⟨S256, .i1⟩
  | .hbm, ⟨37, _⟩ => ⟨S256, .i32⟩
  | .hbm, ⟨38, _⟩ => ⟨S256, .i32⟩
  | .hbm, ⟨39, _⟩ => ⟨S_, .i32⟩
  | .hbm, ⟨40, _⟩ => ⟨S256, .i32⟩
  | .hbm, ⟨41, _⟩ => ⟨S256, .i1⟩
  | .hbm, ⟨42, _⟩ => ⟨S256, .i1⟩
  | .hbm, ⟨43, _⟩ => ⟨S_, .i32⟩
  | .hbm, ⟨44, _⟩ => ⟨S256, .i32⟩
  | .hbm, ⟨45, _⟩ => ⟨S256, .i32⟩
  | .hbm, ⟨46, _⟩ => ⟨S256, .i32⟩
  | .hbm, ⟨47, _⟩ => ⟨S1x256, .i32⟩
  | .hbm, ⟨48, _⟩ => ⟨S256x256, .i32⟩
  | .hbm, ⟨49, _⟩ => ⟨S256x256, .i32⟩
  | .hbm, ⟨50, _⟩ => ⟨S256x256, .i1⟩
  | .hbm, ⟨51, _⟩ => ⟨S2x16x256x256, .f32⟩
  | .hbm, ⟨52, _⟩ => ⟨S2x16x256x256, .bf16⟩
  | .hbm, ⟨53, _⟩ => ⟨S2x16x256x256, .f32⟩
  | .hbm, ⟨54, _⟩ => ⟨S_, .f32⟩
  | .hbm, ⟨55, _⟩ => ⟨S2x16x256x256, .f32⟩
  | .hbm, ⟨56, _⟩ => ⟨S2x16x256x256, .f32⟩
  | .hbm, ⟨57, _⟩ => ⟨S1x1x256x256, .i1⟩
  | .hbm, ⟨58, _⟩ => ⟨S_, .f32⟩
  | .hbm, ⟨59, _⟩ => ⟨S_, .f32⟩
  | .hbm, ⟨60, _⟩ => ⟨S2x16x256x256, .i1⟩
  | .hbm, ⟨61, _⟩ => ⟨S2x16x256x256, .f32⟩
  | .hbm, ⟨62, _⟩ => ⟨S2x16x256x256, .f32⟩
  | .hbm, ⟨63, _⟩ => ⟨S_, .f32⟩
  | .hbm, ⟨64, _⟩ => ⟨S2x16x256, .f32⟩
  | .hbm, ⟨65, _⟩ => ⟨S2x16x256x1, .f32⟩
  | .hbm, ⟨66, _⟩ => ⟨S2x16x256x256, .f32⟩
  | .hbm, ⟨67, _⟩ => ⟨S2x16x256x256, .f32⟩
  | .hbm, ⟨68, _⟩ => ⟨S2x16x256x256, .f32⟩
  | .hbm, ⟨69, _⟩ => ⟨S_, .i1⟩
  | .hbm, ⟨70, _⟩ => ⟨S256, .i1⟩
  | .hbm, ⟨71, _⟩ => ⟨S1x1x256x1, .i1⟩
  | .hbm, ⟨72, _⟩ => ⟨S_, .f32⟩
  | .hbm, ⟨73, _⟩ => ⟨S2x16x256, .f32⟩
  | .hbm, ⟨74, _⟩ => ⟨S2x16x256x1, .f32⟩
  | .hbm, ⟨75, _⟩ => ⟨S_, .f32⟩
  | .hbm, ⟨76, _⟩ => ⟨S_, .f32⟩
  | .hbm, ⟨77, _⟩ => ⟨S2x16x256x1, .i1⟩
  | .hbm, ⟨78, _⟩ => ⟨S2x16x256x1, .f32⟩
  | .hbm, ⟨79, _⟩ => ⟨S2x16x256x1, .f32⟩
  | .hbm, ⟨80, _⟩ => ⟨S2x16x256x256, .f32⟩
  | .hbm, ⟨81, _⟩ => ⟨S2x16x256x256, .f32⟩
  | .hbm, ⟨82, _⟩ => ⟨S1x1x256x1, .i1⟩
  | .hbm, ⟨83, _⟩ => ⟨S_, .f32⟩
  | .hbm, ⟨84, _⟩ => ⟨S_, .f32⟩
  | .hbm, ⟨85, _⟩ => ⟨S2x16x256x256, .i1⟩
  | .hbm, ⟨86, _⟩ => ⟨S2x16x256x256, .f32⟩
  | .hbm, ⟨87, _⟩ => ⟨S2x16x256x256, .f32⟩
  | .hbm, ⟨88, _⟩ => ⟨S2x256x16x64, .f32⟩
  | .hbm, ⟨89, _⟩ => ⟨S2x16x64x256, .f32⟩
  | .hbm, ⟨90, _⟩ => ⟨S2x256x16x64, .f32⟩
  | .hbm, ⟨91, _⟩ => ⟨S2x256x1024, .f32⟩
  | .hbm, ⟨92, _⟩ => ⟨S1024x512, .f32⟩
  | .hbm, ⟨93, _⟩ => ⟨S2x256x512, .f32⟩
  | .hbm, ⟨94, _⟩ => ⟨S2x256x512, .bf16⟩
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_cst : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_1 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v18 : Ref sig .tc := ⟨.hbm, 62, rfl⟩
abbrev main_cst_2 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_c_3 : Ref sig .tc := ⟨.hbm, 69, rfl⟩
abbrev main_v24 : Ref sig .tc := ⟨.hbm, 70, rfl⟩
abbrev main_v25 : Ref sig .tc := ⟨.hbm, 71, rfl⟩
abbrev main_cst_4 : Ref sig .tc := ⟨.hbm, 72, rfl⟩
abbrev main_v26 : Ref sig .tc := ⟨.hbm, 73, rfl⟩
abbrev main_v27 : Ref sig .tc := ⟨.hbm, 74, rfl⟩
abbrev main_cst_5 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_cst_6 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩

abbrev nD : Nat := 1
abbrev τ : Topo := Topo.v7x

variable {F : FTy → Type} [FloatOps F]
-- ==== Proof.Base.lean ====
/- Names the proof of the kernel is written with: the resource algebra, the memory references of the kernel body
   as the launch passes them, and the inputs of one device. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.PureOps
public import Idealize.ShloMosaic.Lib.Pipeline.RegionTalk

@[expose] public section

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Gen

variable {F : FTy → Type} [FloatOps F]

/-- The two halves of the proof's own resources: the pipeline's rounds and the kernel's. -/
abbrev UU : Type := UR sig nD τ × Rounds.URounds (GSem nD τ sig) (Fin 4)

local notation "𝕄" => MT nD τ sig Unit (Elt F) ℕ UU ℕ

/-- The rounds of the pipeline's staging cells. -/
abbrev EP : Emb (UR sig nD τ) 𝕄 := embL
/-- The rounds of the kernel's own cells. -/
abbrev ER : Emb (Rounds.URounds (GSem nD τ sig) (Fin 4)) 𝕄 := embR

/-- No call recurs: no termination measure is needed. -/
abbrev 𝒱₀ : Variants := Variants.none

abbrev xM : Memref sig .tc .vmem S2x256x512 .bf16 := Memref.whole cc0_stg0_0
abbrev wqM : Memref sig .tc .vmem S512x256 .bf16 := Memref.whole cc0_stg1_0
abbrev kM : Memref sig .tc .vmem S2x256x256 .bf16 := Memref.whole cc0_stg2_0
abbrev vM : Memref sig .tc .vmem S2x256x256 .bf16 := Memref.whole cc0_stg3_0
abbrev woM : Memref sig .tc .vmem S256x512 .bf16 := Memref.whole cc0_stg4_0
abbrev outM : Memref sig .tc .vmem S2x256x512 .bf16 := Memref.whole cc0_stg5_0
abbrev ptM : Memref sig .tc .vmem S3x128x512 .bf16 := Memref.whole cc0_scratch0
abbrev rsM : Memref sig .tc .vmem S4x128x512 .bf16 := Memref.whole cc0_scratch1
abbrev redM : Memref sig .tc .vmem S128x512 .bf16 := Memref.whole cc0_scratch2

end Cert.KernelIdeal.Hand

end
-- ==== Proof.Content.lean ====
/- What the kernel computes, as functions of the inputs of the devices: one device's partial product for one quarter of
   the rows, and what the three working buffers hold once every transfer has landed. -/
module

public import proofs.«01_k».proof.Proof.Base

@[expose] public section

noncomputable section

namespace Cert.KernelIdeal.Hand

open Idealize.ShloMosaic
open Idealize.ShloMosaic.TcCoe
open Cert.KernelIdeal.Gen

variable {F : FTy → Type} [FloatOps F]

/-- What one device's kernel reads: the rows, the query weights of its heads, its heads' keys and values, and the
    output weights of its heads. -/
structure Inp (F : FTy → Type) where
  x : Vec F S2x256x512 .bf16
  wq : Vec F S512x256 .bf16
  k : Vec F S2x256x256 .bf16
  v : Vec F S2x256x256 .bf16
  wo : Vec F S256x512 .bf16

/-- Where quarter `q` of the rows starts. -/
abbrev xOff (q : Fin 4) : Fin 3 → ℕ := ![q.val / 2, q.val % 2 * 128, 0]
/-- Where head `h`'s keys and values start for quarter `q`. -/
abbrev kOff (q h : Fin 4) : Fin 3 → ℕ := ![q.val / 2, 0, 64 * h.val]

theorem xOff_inb (q : Fin 4) : ∀ a, xOff q a + S1x128x512.size a ≤ S2x256x512.size a := by
  revert q; decide
theorem kOff_inb (q h : Fin 4) : ∀ a, kOff q h a + S1x256x64.size a ≤ S2x256x256.size a := by
  revert q h; decide

/-- The rows of a quarter. -/
def xBlk (x : Vec F S2x256x512 .bf16) (q : Fin 4) : Vec F S1x128x512 .bf16 :=
  View.readAt (Elt F) xM.view (Rect.unit (s := S2x256x512) (xOff q) S1x128x512.size (xOff_inb q)).toLoadRect x
/-- One head's keys for the batch entry a quarter lies in. -/
def kBlk (k : Vec F S2x256x256 .bf16) (q h : Fin 4) : Vec F S1x256x64 .bf16 :=
  View.readAt (Elt F) kM.view (Rect.unit (s := S2x256x256) (kOff q h) S1x256x64.size (kOff_inb q h)).toLoadRect k
/-- One head's values for the batch entry a quarter lies in. -/
def vBlk (v : Vec F S2x256x256 .bf16) (q h : Fin 4) : Vec F S1x256x64 .bf16 :=
  View.readAt (Elt F) vM.view (Rect.unit (s := S2x256x256) (kOff q h) S1x256x64.size (kOff_inb q h)).toLoadRect v

/-- Which keys a row sees: those of the blocks of 64 up to its own. `r0` is the quarter's first row. -/
def maskOf (r0 : BitVec 32) : IVec S128x256 1 :=
  k0_pay36 k0_pay3 (addi (broadcast S128x256 r0) (iota .tc S128x256 32 [0] iota_S128x256_d0_w32)) 64#32
    (broadcast S128x256 64#32)

/-- The queries of a quarter, all four heads side by side. -/
def qOf (wq : Vec F S512x256 .bf16) (xb : Vec F S1x128x512 .bf16) : FVec F S128x256 .f32 := k0_pay4 (k0_pay1 wq) xb

/-- One device's product for a quarter: attention over its four heads, then its rows of the output weights. -/
def partOf (mask : IVec S128x256 1) (qp : FVec F S128x256 .f32) (k v : Fin 4 → Vec F S1x256x64 .bf16)
    (wo : Vec F S256x512 .bf16) : FVec F S128x512 .bf16 :=
  truncf .bf16 (matmul dot_S128x256_S256x512_S128x512_1_0_0_1_n_n none
    (truncf .bf16 (concatenate S128x256 1
      [⟨S128x64, k0_pay39 mask (extractStridedSlice S128x64 ![0, 0] qp slices_S128x256_o0_0_S128x64) (k 0) (v 0)⟩,
       ⟨S128x64, k0_pay39 mask (extractStridedSlice S128x64 ![0, 64] qp slices_S128x256_o0_64_S128x64) (k 1) (v 1)⟩,
       ⟨S128x64, k0_pay39 mask (extractStridedSlice S128x64 ![0, 128] qp slices_S128x256_o0_128_S128x64) (k 2) (v 2)⟩,
       ⟨S128x64, k0_pay39 mask (extractStridedSlice S128x64 ![0, 192] qp slices_S128x256_o0_192_S128x64) (k 3) (v 3)⟩]
      concatenates_S128x64_S128x64_S128x64_S128x64_S128x256_d1) bitsLt_bf16_f32)
    (k0_pay2 wo) (constant S128x512 .f32 0x00000000#32)) bitsLt_bf16_f32

/-- The first row of quarter `q` within its batch entry. -/
def r0 (q : Fin 4) : BitVec 32 := BitVec.ofNat 32 (q.val % 2 * 128)

/-- The product of a device with inputs `I` for quarter `q`. -/
def part (I : Inp F) (q : Fin 4) : FVec F S128x512 .bf16 :=
  partOf (maskOf (r0 q)) (qOf I.wq (xBlk I.x q)) (kBlk I.k q) (vBlk I.v q) I.wo

/-- The sum of the four devices' products for a quarter, in the order its owner adds them. -/
def red (I : Fin 4 → Inp F) (q : Fin 4) : FVec F S128x512 .bf16 :=
  addf (addf (part (I q) q) (part (I (q + 1)) q)) (addf (part (I (q + 2)) q) (part (I (q + 3)) q))

/-- What device `c` has stored for sending: row `j` is its product for the quarter `j + 1` after its own. -/
def PT (I : Fin 4 → Inp F) (c : Fin 4) : Vec F S3x128x512 .bf16 :=
  fun i => part (I c) (c + (show Fin 3 from i 0).succ) (Shape.pair (d := ![128, 512]) (i 1) (i 2))

/-- What device `c` has received: slot `k` is the product device `c + k` made for `c`'s quarter. -/
def RS (I : Fin 4 → Inp F) (c : Fin 4) : Vec F S4x128x512 .bf16 :=
  fun i => part (I (c + (show Fin 4 from i 0))) c (Shape.pair (d := ![128, 512]) (i 1) (i 2))

/-- The quarter a row of the result belongs to. -/
def quarterOf (b : Fin 2) (r : Fin 256) : Fin 4 := ⟨b.val * 2 + r.val / 128, by omega⟩

/-- The result, on every device. -/
def OUT (I : Fin 4 → Inp F) : Vec F S2x256x512 .bf16 :=
  fun i => red I (quarterOf (i 0) (i 1))
    (Shape.pair (d := ![128, 512]) ⟨(show Fin 256 from i 1).val % 128, Nat.mod_lt _ (by decide)⟩ (i 2))

/-! ## The printed chains are these functions -/

/-- A load through a unit rectangle depends on its offsets alone. -/
theorem readAt_off {s s' : Shape} {e : EltTy} {sp : CoreSpace} (M : Memref sig .tc sp s e) {off off' : Fin s.rank → ℕ} {sz : Fin s.rank → ℕ}
    {inb inb'} (h : off = off') (f : M.view.ty.Contents (Elt F)) :
    View.readAt (Elt F) M.view (Rect.unit off sz inb).toLoadRect f = View.readAt (Elt F) M.view (Rect.unit off' sz inb').toLoadRect f := by
  subst h; rfl

end Cert.KernelIdeal.Hand

end
-- ==== Proof.Geom.lean ====
/- The pieces the transfers move: where each one lies in its buffer, and that what lands there is what the receiving
   buffer is to hold. -/
module

public import proofs.«01_k».proof.Proof.Content
public import Idealize.ShloMosaic.Lib.Ring.Trips
public import Idealize.ShloMosaic.Lib.Pipeline.Value

@[expose] public section

noncomputable section

namespace Cert.KernelIdeal.Hand

open Idealize.ShloMosaic
open Idealize.ShloMosaic.TcCoe
open Cert.KernelIdeal.Gen

variable {F : FTy → Type} [FloatOps F]

/-! ## The devices and slots of a transfer -/

/-- The device `j + 1` after `c`. -/
def peer (c : Fin 4) (j : Fin 3) : Fin 4 := c + j.succ
/-- The slot it receives from `c` in. -/
def slot (j : Fin 3) : Fin 4 := -j.succ

theorem peer_peer_rev : ∀ (c : Fin 4) (j : Fin 3), peer (peer c j) j.rev = c := by decide
theorem slot_rev : ∀ j : Fin 3, slot j.rev = j.succ := by decide
theorem peer_slot : ∀ (c : Fin 4) (j : Fin 3), peer c j + slot j = c := by decide
theorem slot_ne : ∀ j : Fin 3, slot j ≠ 0 := by decide

/-! ## The pieces, as sets of elements -/

/-- Half `h` of row `j` of the buffer sent from. -/
def ptS (j : Fin 3) (h : Fin 2) : Finset S3x128x512.Idx :=
  Finset.univ.filter fun i => (i 0).val = j.val ∧ (i 1).val / 64 = h.val
/-- Row `j` of the buffer sent from. -/
def ptRowS (j : Fin 3) : Finset S3x128x512.Idx := Finset.univ.filter fun i => (i 0).val = j.val
/-- Half `h` of slot `k` of the buffer received in. -/
def rsS (k : Fin 4) (h : Fin 2) : Finset S4x128x512.Idx :=
  Finset.univ.filter fun i => (i 0).val = k.val ∧ (i 1).val / 64 = h.val
/-- Half `h` of quarter `q` of the result. -/
def outS (q : Fin 4) (h : Fin 2) : Finset S2x256x512.Idx :=
  Finset.univ.filter fun i => (i 0).val * 4 + (i 1).val / 64 = 2 * q.val + h.val

theorem mem_ptS (j : Fin 3) (h : Fin 2) (i : S3x128x512.Idx) :
    i ∈ ptS j h ↔ (i 0).val = j.val ∧ (i 1).val / 64 = h.val := by simp [ptS]
theorem mem_ptRowS (j : Fin 3) (i : S3x128x512.Idx) : i ∈ ptRowS j ↔ (i 0).val = j.val := by simp [ptRowS]
theorem mem_rsS (k : Fin 4) (h : Fin 2) (i : S4x128x512.Idx) :
    i ∈ rsS k h ↔ (i 0).val = k.val ∧ (i 1).val / 64 = h.val := by simp [rsS]
theorem mem_outS (q : Fin 4) (h : Fin 2) (i : S2x256x512.Idx) :
    i ∈ outS q h ↔ (i 0).val * 4 + (i 1).val / 64 = 2 * q.val + h.val := by simp [outS]

/-! ## The pieces, as the program's memory references -/

/-- Where half `h` of row `j` starts. -/
abbrev pcOff {n : ℕ} (j : Fin n) (h : Fin 2) : Fin 3 → ℕ := ![j.val, 64 * h.val, 0]

theorem ptOff_inb (j : Fin 3) (h : Fin 2) : ∀ a, pcOff j h a + S1x64x512.size a ≤ S3x128x512.size a := by
  revert j h; decide
theorem rsOff_inb (k : Fin 4) (h : Fin 2) : ∀ a, pcOff k h a + S1x64x512.size a ≤ S4x128x512.size a := by
  revert k h; decide
theorem ptRow_inb (j : Fin 3) : ∀ a, (![j.val, 0, 0] : Fin 3 → ℕ) a + S1x128x512.size a ≤ S3x128x512.size a := by
  revert j; decide

/-- Where half `h` of quarter `q` starts in the result. -/
abbrev outOff (q : Fin 4) (h : Fin 2) : Fin 3 → ℕ := ![q.val / 2, q.val % 2 * 128 + 64 * h.val, 0]
theorem outOff_inb (q : Fin 4) (h : Fin 2) : ∀ a, outOff q h a + S1x64x512.size a ≤ S2x256x512.size a := by
  revert q h; decide

abbrev ptPc (j : Fin 3) (h : Fin 2) : Memref sig .tc .vmem S64x512 .bf16 :=
  (ptM.slice (Rect.unit (s := S3x128x512) (pcOff j h) S1x64x512.size (ptOff_inb j h)) (fun _ => rfl)).squeeze S64x512 squeezes_S1x64x512_S64x512
abbrev rsPc (k : Fin 4) (h : Fin 2) : Memref sig .tc .vmem S64x512 .bf16 :=
  (rsM.slice (Rect.unit (s := S4x128x512) (pcOff k h) S1x64x512.size (rsOff_inb k h)) (fun _ => rfl)).squeeze S64x512 squeezes_S1x64x512_S64x512
abbrev outPc (q : Fin 4) (h : Fin 2) : Memref sig .tc .vmem S64x512 .bf16 :=
  (outM.slice (Rect.unit (s := S2x256x512) (outOff q h) S1x64x512.size (outOff_inb q h)) (fun _ => rfl)).squeeze S64x512 squeezes_S1x64x512_S64x512

/-- A rectangle of unit stride in three coordinates, by its coordinates. -/
theorem mem_unit3 {d : Fin 3 → ℕ} {off size : Fin 3 → ℕ} {inb} (i : (⟨3, d⟩ : Shape).Idx) :
    i ∈ (Rect.unit (s := ⟨3, d⟩) off size inb).set ↔ (off 0 ≤ (i 0).val ∧ (i 0).val < off 0 + size 0)
      ∧ (off 1 ≤ (i 1).val ∧ (i 1).val < off 1 + size 1) ∧ (off 2 ≤ (i 2).val ∧ (i 2).val < off 2 + size 2) := by
  rw [Rect.mem_set_unit]
  exact ⟨fun h => ⟨h 0, h 1, h 2⟩, fun h a => by
    rcases a with ⟨_ | _ | _ | n, hb⟩
    · exact h.1
    · exact h.2.1
    · exact h.2.2
    · exact absurd hb (by simp)⟩

theorem ptPc_set (j : Fin 3) (h : Fin 2) : (ptPc j h).view.set = ptS j h := by
  refine (View.set_reshape _ _).trans ((View.set_slice_whole cc0_scratch0 _).trans ?_)
  ext i
  refine (mem_unit3 i).trans (Iff.trans ?_ (mem_ptS j h i).symm)
  have h2 : (i 2).val < 512 := (i 2).isLt
  have := h.isLt
  simp [pcOff]
  omega

theorem rsPc_set (k : Fin 4) (h : Fin 2) : (rsPc k h).view.set = rsS k h := by
  refine (View.set_reshape _ _).trans ((View.set_slice_whole cc0_scratch1 _).trans ?_)
  ext i
  refine (mem_unit3 i).trans (Iff.trans ?_ (mem_rsS k h i).symm)
  have h2 : (i 2).val < 512 := (i 2).isLt
  have := h.isLt
  simp [pcOff]
  omega

theorem outRect_set (q : Fin 4) (h : Fin 2) :
    (Rect.unit (s := S2x256x512) (outOff q h) S1x64x512.size (outOff_inb q h)).set = outS q h := by
  ext i
  refine (mem_unit3 i).trans (Iff.trans ?_ (mem_outS q h i).symm)
  have h0 : (i 0).val < 2 := (i 0).isLt
  have h1 : (i 1).val < 256 := (i 1).isLt
  have h2 : (i 2).val < 512 := (i 2).isLt
  have := h.isLt
  have := q.isLt
  simp [outOff]
  omega

theorem outPc_set (q : Fin 4) (h : Fin 2) : (outPc q h).view.set = outS q h :=
  (View.set_reshape _ _).trans ((View.set_slice_whole cc0_stg5_0 _).trans (outRect_set q h))

/-- The elements a store of row `j` writes. -/
theorem ptRow_set (j : Fin 3) :
    (ptM.access (Rect.unit (s := S3x128x512) ![j.val, 0, 0] S1x128x512.size (ptRow_inb j))).set = ptRowS j := by
  refine (View.set_slice_whole cc0_scratch0 _).trans ?_
  ext i
  refine (mem_unit3 i).trans (Iff.trans ?_ (mem_ptRowS j i).symm)
  have h1 : (i 1).val < 128 := (i 1).isLt
  have h2 : (i 2).val < 512 := (i 2).isLt
  simp
  omega

/-! ## What lands -/

/-- A coordinate of an element of a rectangle of unit stride. -/
theorem unit_emb_val {s : Shape} (off size : Fin s.rank → ℕ) (inb) (x : (Rect.unit off size inb).shape.Idx) (a : Fin s.rank) :
    ((Rect.unit off size inb).emb x a).val = off a + (x a).val := by
  rw [Rect.emb_apply, Rect.off_unit, Rect.stride_unit, Nat.one_mul]

/-- The element of a piece, by its coordinates. -/
theorem squeeze_emb {d : Fin 2 → ℕ} (h : (⟨2, d⟩ : Shape).numel = (⟨3, Matrix.vecCons 1 d⟩ : Shape).numel) (x : (⟨2, d⟩ : Shape).Idx) :
    ((Shape.reshapeEquiv h x) 0).val = 0 ∧ ((Shape.reshapeEquiv h x) 1).val = (x 0).val ∧ ((Shape.reshapeEquiv h x) 2).val = (x 1).val := by
  rw [Shape.reshapeEquiv_cons_one]
  exact ⟨rfl, rfl, rfl⟩

theorem ptPc_emb (j : Fin 3) (h : Fin 2) (x : S64x512.Idx) :
    (((ptPc j h).view.emb x) 0).val = j.val ∧ (((ptPc j h).view.emb x) 1).val = 64 * h.val + (x 0).val
      ∧ (((ptPc j h).view.emb x) 2).val = (x 1).val := by
  obtain ⟨e0, e1, e2⟩ := squeeze_emb (d := ![64, 512]) squeezes_S1x64x512_S64x512.numel_eq x
  refine ⟨?_, ?_, ?_⟩
  · refine (unit_emb_val (s := S3x128x512) _ _ _ _ 0).trans ((congrArg (_ + ·) e0).trans (by simp [pcOff, outOff]))
  · refine (unit_emb_val (s := S3x128x512) _ _ _ _ 1).trans ((congrArg (_ + ·) e1).trans (by simp [pcOff, outOff]))
  · refine (unit_emb_val (s := S3x128x512) _ _ _ _ 2).trans ((congrArg (_ + ·) e2).trans (by simp [pcOff, outOff]))

theorem rsPc_emb (k : Fin 4) (h : Fin 2) (x : S64x512.Idx) :
    (((rsPc k h).view.emb x) 0).val = k.val ∧ (((rsPc k h).view.emb x) 1).val = 64 * h.val + (x 0).val
      ∧ (((rsPc k h).view.emb x) 2).val = (x 1).val := by
  obtain ⟨e0, e1, e2⟩ := squeeze_emb (d := ![64, 512]) squeezes_S1x64x512_S64x512.numel_eq x
  refine ⟨?_, ?_, ?_⟩
  · refine (unit_emb_val (s := S4x128x512) _ _ _ _ 0).trans ((congrArg (_ + ·) e0).trans (by simp [pcOff, outOff]))
  · refine (unit_emb_val (s := S4x128x512) _ _ _ _ 1).trans ((congrArg (_ + ·) e1).trans (by simp [pcOff, outOff]))
  · refine (unit_emb_val (s := S4x128x512) _ _ _ _ 2).trans ((congrArg (_ + ·) e2).trans (by simp [pcOff, outOff]))

/-- An element of a view's set is some coordinate's. -/
theorem exists_emb {s : Shape} {e : EltTy} {sp : CoreSpace} (V : View sig .tc sp s e) {i : V.ty.Idx} (hi : i ∈ V.set) :
    ∃ x, V.emb x = i := by
  obtain ⟨x, -, hx⟩ := Finset.mem_map.mp hi
  exact ⟨x, hx⟩

/-- Half `h` of row `j`, sent by device `c`, is what the device `j + 1` after it is to hold in the slot it lands in. -/
theorem rs_land (I : Fin 4 → Inp F) (c : Fin 4) (j : Fin 3) (h : Fin 2) (f : Vec F S4x128x512 .bf16) :
    ∀ i ∈ rsS (slot j) h,
      (rsPc (slot j) h).view.write (Elt F) f ((ptPc j h).view.read (Elt F) (PT I c)) Finset.univ i = RS I (peer c j) i := by
  intro i hi
  obtain ⟨x, rfl⟩ := exists_emb (rsPc (slot j) h).view (i := i) (by rw [rsPc_set]; exact hi)
  rw [View.write_emb_of_mem _ _ (Finset.mem_univ x), View.read_apply]
  obtain ⟨a0, a1, a2⟩ := ptPc_emb j h x
  obtain ⟨b0, b1, b2⟩ := rsPc_emb (slot j) h x
  have e0 : (show Fin 3 from ((ptPc j h).view.emb x) 0) = j := Fin.ext a0
  have f0 : (show Fin 4 from ((rsPc (slot j) h).view.emb x) 0) = slot j := Fin.ext b0
  have e1 : (show Fin 128 from ((ptPc j h).view.emb x) 1) = (show Fin 128 from ((rsPc (slot j) h).view.emb x) 1) := Fin.ext (a1.trans b1.symm)
  have e2 : (show Fin 512 from ((ptPc j h).view.emb x) 2) = (show Fin 512 from ((rsPc (slot j) h).view.emb x) 2) := Fin.ext (a2.trans b2.symm)
  show part (I c) (c + (show Fin 3 from ((ptPc j h).view.emb x) 0).succ) (Shape.pair (d := ![128, 512]) (show Fin 128 from ((ptPc j h).view.emb x) 1) (show Fin 512 from ((ptPc j h).view.emb x) 2))
    = part (I (peer c j + (show Fin 4 from ((rsPc (slot j) h).view.emb x) 0))) (peer c j) (Shape.pair (d := ![128, 512]) (show Fin 128 from ((rsPc (slot j) h).view.emb x) 1) (show Fin 512 from ((rsPc (slot j) h).view.emb x) 2))
  rw [e0, f0, e1, e2, peer_slot]; rfl

/-- A piece of the result, copied to the same place of another device, is what that device is to hold there. -/
theorem out_land (I : Fin 4 → Inp F) (q : Fin 4) (h : Fin 2) (f : Vec F S2x256x512 .bf16) :
    ∀ i ∈ outS q h,
      (outPc q h).view.write (Elt F) f ((outPc q h).view.read (Elt F) (OUT I)) Finset.univ i = OUT I i := by
  intro i hi
  obtain ⟨x, rfl⟩ := exists_emb (outPc q h).view (i := i) (by rw [outPc_set]; exact hi)
  rw [View.write_emb_of_mem _ _ (Finset.mem_univ x), View.read_apply]; rfl

/-- A row as stored is the row the buffer is to hold. -/
theorem pt_store (I : Fin 4 → Inp F) (c : Fin 4) (j : Fin 3) (f : Vec F S3x128x512 .bf16) :
    ∀ i ∈ ptRowS j,
      (ptM.access (Rect.unit (s := S3x128x512) ![j.val, 0, 0] S1x128x512.size (ptRow_inb j))).write (Elt F) f
        (shapeCast S1x128x512 (part (I c) (peer c j)) shapeCasts_S128x512_S1x128x512) Finset.univ i = PT I c i := by
  intro i hi
  obtain ⟨x, rfl⟩ := exists_emb (ptM.access (Rect.unit (s := S3x128x512) ![j.val, 0, 0] S1x128x512.size (ptRow_inb j))) (i := i)
    (by rw [ptRow_set]; exact hi)
  rw [View.write_emb_of_mem _ _ (Finset.mem_univ x)]
  have h0 : (x 0).val = 0 := by have : (x 0).val < 1 := (x 0).isLt; omega
  have h1 : (x 1).val < 128 := (x 1).isLt
  have h2 : (x 2).val < 512 := (x 2).isLt
  have b0 := unit_emb_val (s := S3x128x512) _ _ (ptRow_inb j) x 0
  have b1 := unit_emb_val (s := S3x128x512) _ _ (ptRow_inb j) x 1
  have b2 := unit_emb_val (s := S3x128x512) _ _ (ptRow_inb j) x 2
  have e0 : (show Fin 3 from ((Rect.unit (s := S3x128x512) ![j.val, 0, 0] S1x128x512.size (ptRow_inb j)).emb x) 0) = j :=
    Fin.ext (b0.trans (by rw [h0]; simp))
  have e1 : (show Fin 128 from ((Rect.unit (s := S3x128x512) ![j.val, 0, 0] S1x128x512.size (ptRow_inb j)).emb x) 1) = ⟨(x 1).val, h1⟩ :=
    Fin.ext (b1.trans (by simp))
  have e2 : (show Fin 512 from ((Rect.unit (s := S3x128x512) ![j.val, 0, 0] S1x128x512.size (ptRow_inb j)).emb x) 2) = ⟨(x 2).val, h2⟩ :=
    Fin.ext (b2.trans (by simp))
  show shapeCast S1x128x512 (part (I c) (peer c j)) shapeCasts_S128x512_S1x128x512 x = _
  refine Eq.trans (shapeCast_apply (s := S128x512) (t := S1x128x512) _ _ x (Shape.pair (d := ![128, 512]) ⟨(x 1).val, h1⟩ ⟨(x 2).val, h2⟩) ?_) ?_
  · refine (Shape.rowMajor_val_two (d := ![128, 512]) _).trans ((Shape.rowMajor_val_three (d := ![1, 128, 512]) x).trans ?_).symm
    rw [h0]; simp; rfl
  show _ = part (I c) (c + (show Fin 3 from ((Rect.unit (s := S3x128x512) ![j.val, 0, 0] S1x128x512.size (ptRow_inb j)).emb x) 0).succ)
    (Shape.pair (d := ![128, 512]) (show Fin 128 from ((Rect.unit (s := S3x128x512) ![j.val, 0, 0] S1x128x512.size (ptRow_inb j)).emb x) 1)
      (show Fin 512 from ((Rect.unit (s := S3x128x512) ![j.val, 0, 0] S1x128x512.size (ptRow_inb j)).emb x) 2))
  rw [e0, e1, e2]; rfl

/-! ## What the owner of a quarter stores -/

/-- Half `h` of slot `k`, as loaded. -/
def rsBlk (R : Vec F S4x128x512 .bf16) (k : Fin 4) (h : Fin 2) : Vec F S1x64x512 .bf16 :=
  View.readAt (Elt F) rsM.view (Rect.unit (s := S4x128x512) (pcOff k h) S1x64x512.size (rsOff_inb k h)).toLoadRect R

theorem addf_congr {s t : Shape} {a b : FVec F s .bf16} {a' b' : FVec F t .bf16} {i : s.Idx} {j : t.Idx}
    (ha : a i = a' j) (hb : b i = b' j) : addf a b i = addf a' b' j := by
  unfold addf; rw [ha, hb]

/-- An element of a loaded half slot. -/
theorem rsBlk_at (I : Fin 4 → Inp F) (q k : Fin 4) (h : Fin 2) (x : S1x64x512.Idx) (a : Fin 128) (b : Fin 512)
    (ha : a.val = 64 * h.val + (x 1).val) (hb : b.val = (x 2).val) :
    shapeCast S64x512 (rsBlk (RS I q) k h) shapeCasts_S1x64x512_S64x512 (Shape.pair (d := ![64, 512]) (x 1) (x 2))
      = part (I (q + k)) q (Shape.pair (d := ![128, 512]) a b) := by
  have h0 : (x 0).val = 0 := by have : (x 0).val < 1 := (x 0).isLt; omega
  refine Eq.trans (shapeCast_apply (s := S1x64x512) (t := S64x512) _ _ _ x ?_) ?_
  · refine (Shape.rowMajor_val_three (d := ![1, 64, 512]) x).trans (Eq.trans ?_ (Shape.rowMajor_val_two (d := ![64, 512]) _).symm)
    rw [h0]; simp; rfl
  have e0 : (show Fin 4 from ((Rect.unit (s := S4x128x512) (pcOff k h) S1x64x512.size (rsOff_inb k h)).emb x) 0) = k :=
    Fin.ext ((unit_emb_val (s := S4x128x512) _ _ (rsOff_inb k h) x 0).trans (by rw [h0]; simp [pcOff]))
  have e1 : (show Fin 128 from ((Rect.unit (s := S4x128x512) (pcOff k h) S1x64x512.size (rsOff_inb k h)).emb x) 1) = a :=
    Fin.ext ((unit_emb_val (s := S4x128x512) _ _ (rsOff_inb k h) x 1).trans (by rw [ha]; simp [pcOff]))
  have e2 : (show Fin 512 from ((Rect.unit (s := S4x128x512) (pcOff k h) S1x64x512.size (rsOff_inb k h)).emb x) 2) = b :=
    Fin.ext ((unit_emb_val (s := S4x128x512) _ _ (rsOff_inb k h) x 2).trans (by rw [hb]; simp [pcOff]))
  show part (I (q + (show Fin 4 from ((Rect.unit (s := S4x128x512) (pcOff k h) S1x64x512.size (rsOff_inb k h)).emb x) 0))) q
    (Shape.pair (d := ![128, 512]) (show Fin 128 from ((Rect.unit (s := S4x128x512) (pcOff k h) S1x64x512.size (rsOff_inb k h)).emb x) 1)
      (show Fin 512 from ((Rect.unit (s := S4x128x512) (pcOff k h) S1x64x512.size (rsOff_inb k h)).emb x) 2)) = _
  rw [e0, e1, e2]

/-- What is stored for half `h` of the own quarter. -/
def redHalf (own : FVec F S128x512 .bf16) (R : Vec F S4x128x512 .bf16) : Fin 2 → FVec F S1x64x512 .bf16
  | 0 => k0_pay53 own (rsBlk R 1 0) (rsBlk R 2 0) (rsBlk R 3 0)
  | 1 => k0_pay54 own (rsBlk R 1 1) (rsBlk R 2 1) (rsBlk R 3 1)

theorem redHalf_at (I : Fin 4 → Inp F) (q : Fin 4) (h : Fin 2) (x : S1x64x512.Idx) (a : Fin 128) (b : Fin 512)
    (ha : a.val = 64 * h.val + (x 1).val) (hb : b.val = (x 2).val) :
    redHalf (part (I q) q) (RS I q) h x = red I q (Shape.pair (d := ![128, 512]) a b) := by
  have h0 : (x 0).val = 0 := by have : (x 0).val < 1 := (x 0).isLt; omega
  have hr : (S64x512.rowMajor (Shape.pair (d := ![64, 512]) (x 1) (x 2))).val = (S1x64x512.rowMajor x).val := by
    refine Eq.trans (Shape.rowMajor_val_two (d := ![64, 512]) _) (Eq.trans ?_ (Shape.rowMajor_val_three (d := ![1, 64, 512]) x).symm)
    rw [h0]; simp; rfl
  have hs : ∀ (off : Fin 2 → ℕ) (hw : S128x512.Slices off S64x512), off 0 = 64 * h.val → off 1 = 0 →
      extractStridedSlice S64x512 off (part (I q) q) hw (Shape.pair (d := ![64, 512]) (x 1) (x 2))
        = part (I q) q (Shape.pair (d := ![128, 512]) a b) := fun off hw h1 h2 =>
    extractStridedSlice_apply (s := S128x512) (t := S64x512) off _ hw _ _ fun c => by
      rcases c with ⟨_ | _ | n, hc⟩
      · exact ha.trans (congrArg (· + (x 1).val) h1.symm)
      · exact hb.trans (by have : off 1 + (x 2).val = (x 2).val := by rw [h2, Nat.zero_add]
                           exact this.symm)
      · exact absurd hc (by simp)
  match h, ha, hs with
  | 0, ha, hs =>
    unfold redHalf
    try unfold k0_pay53
    try unfold k0_pay54
    refine Eq.trans (shapeCast_apply (s := S64x512) (t := S1x64x512) _ _ x _ hr) ?_
    exact addf_congr (addf_congr (hs _ _ rfl rfl) (rsBlk_at I q 1 0 x a b ha hb))
      (addf_congr (rsBlk_at I q 2 0 x a b ha hb) (rsBlk_at I q 3 0 x a b ha hb))
  | 1, ha, hs =>
    unfold redHalf
    try unfold k0_pay53
    try unfold k0_pay54
    refine Eq.trans (shapeCast_apply (s := S64x512) (t := S1x64x512) _ _ x _ hr) ?_
    exact addf_congr (addf_congr (hs _ _ rfl rfl) (rsBlk_at I q 1 1 x a b ha hb))
      (addf_congr (rsBlk_at I q 2 1 x a b ha hb) (rsBlk_at I q 3 1 x a b ha hb))

/-- The stored half is what the result is to hold there. -/
theorem out_store (I : Fin 4 → Inp F) (q : Fin 4) (h : Fin 2) (f : Vec F S2x256x512 .bf16) :
    ∀ i ∈ outS q h,
      (outM.access (Rect.unit (s := S2x256x512) (outOff q h) S1x64x512.size (outOff_inb q h))).write (Elt F) f
        (redHalf (part (I q) q) (RS I q) h) Finset.univ i = OUT I i := by
  intro i hi
  obtain ⟨x, rfl⟩ := exists_emb (outM.access (Rect.unit (s := S2x256x512) (outOff q h) S1x64x512.size (outOff_inb q h))) (i := i)
    (by rw [← outRect_set] at hi; refine (Finset.ext_iff.mp (View.set_slice_whole cc0_stg5_0 _) _).mpr hi)
  rw [View.write_emb_of_mem _ _ (Finset.mem_univ x)]
  have h0 : (x 0).val = 0 := by have : (x 0).val < 1 := (x 0).isLt; omega
  have h1 : (x 1).val < 64 := (x 1).isLt
  have h2 : (x 2).val < 512 := (x 2).isLt
  have hq := q.isLt
  have hh := h.isLt
  have b0 : (((Rect.unit (s := S2x256x512) (outOff q h) S1x64x512.size (outOff_inb q h)).emb x) 0).val = q.val / 2 :=
    (unit_emb_val (s := S2x256x512) _ _ (outOff_inb q h) x 0).trans (by rw [h0]; simp [outOff])
  have b1 : (((Rect.unit (s := S2x256x512) (outOff q h) S1x64x512.size (outOff_inb q h)).emb x) 1).val = q.val % 2 * 128 + 64 * h.val + (x 1).val :=
    (unit_emb_val (s := S2x256x512) _ _ (outOff_inb q h) x 1).trans (by simp [outOff])
  have b2 : (((Rect.unit (s := S2x256x512) (outOff q h) S1x64x512.size (outOff_inb q h)).emb x) 2).val = (x 2).val :=
    (unit_emb_val (s := S2x256x512) _ _ (outOff_inb q h) x 2).trans (by simp [outOff])
  show redHalf (part (I q) q) (RS I q) h x
    = OUT I ((Rect.unit (s := S2x256x512) (outOff q h) S1x64x512.size (outOff_inb q h)).emb x)
  generalize (Rect.unit (s := S2x256x512) (outOff q h) S1x64x512.size (outOff_inb q h)).emb x = i' at b0 b1 b2
  have hQ : quarterOf (i' 0) (i' 1) = q := Fin.ext (by
    show (i' 0).val * 2 + (i' 1).val / 128 = q.val
    omega)
  refine (redHalf_at I q h x ⟨(show Fin 256 from i' 1).val % 128, Nat.mod_lt _ (by decide)⟩ (i' 2) ?_ b2).trans ?_
  · show (i' 1).val % 128 = _
    omega
  · exact (congrArg (fun Q => red I Q (Shape.pair (d := ![128, 512]) ⟨(show Fin 256 from i' 1).val % 128, Nat.mod_lt _ (by decide)⟩ (i' 2))) hQ).symm

end Cert.KernelIdeal.Hand

end
-- ==== Proof.Sched.lean ====
/- The protocol: the cells of the kernel's own semaphores, who pays each of them and with what, what each device owes at
   launch, and the order of the waits. -/
module

public import proofs.«01_k».proof.Proof.Geom

@[expose] public section

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The cells -/

/-- The kernel's transfer semaphores: of the first exchange (sending, receiving) and of the second. -/
inductive KS where
  | rsS (h : Fin 2) (j : Fin 3)
  | rsR (h : Fin 2) (k : Fin 4)
  | agS (h : Fin 2) (j : Fin 3)
  | agR (h : Fin 2) (k : Fin 4)

/-- The place of a transfer semaphore among the kernel's own. -/
def idx : KS → Fin 28
  | .rsS h j => ⟨3 * h.val + j.val, by omega⟩
  | .rsR h k => ⟨6 + 4 * h.val + k.val, by omega⟩
  | .agS h j => ⟨14 + 3 * h.val + j.val, by omega⟩
  | .agR h k => ⟨20 + 4 * h.val + k.val, by omega⟩

/-- The transfer semaphore at a place. -/
def unidx (i : Fin 28) : KS :=
  if i.val < 6 then .rsS (Fin.ofNat 2 (i.val / 3)) (Fin.ofNat 3 (i.val % 3))
  else if i.val < 14 then .rsR (Fin.ofNat 2 ((i.val - 6) / 4)) (Fin.ofNat 4 ((i.val - 6) % 4))
  else if i.val < 20 then .agS (Fin.ofNat 2 ((i.val - 14) / 3)) (Fin.ofNat 3 ((i.val - 14) % 3))
  else .agR (Fin.ofNat 2 ((i.val - 20) / 4)) (Fin.ofNat 4 ((i.val - 20) % 4))

theorem unidx_idx (ks : KS) : unidx (idx ks) = ks := by
  cases ks with
  | rsS h j => fin_cases h <;> fin_cases j <;> rfl
  | rsR h k => fin_cases h <;> fin_cases k <;> rfl
  | agS h j => fin_cases h <;> fin_cases j <;> rfl
  | agR h k => fin_cases h <;> fin_cases k <;> rfl

theorem idx_unidx : ∀ i : Fin 28, idx (unidx i) = i := by decide

/-- The semaphore at a place. -/
abbrev dsem (i : Fin 28) : DmaSem sig := ⟨i.val + 6, by have := i.isLt; show i.val + 6 < 34; omega⟩
abbrev osem (i : Fin 28) : SemLoc sig := .dma (dsem i)
abbrev enc (ks : KS) : DmaSem sig := dsem (idx ks)
/-- The kernel's semaphore a transfer semaphore is, if one. -/
def dec (s : DmaSem sig) : Option KS :=
  if h : 6 ≤ s.val then some (unidx ⟨s.val - 6, by have : s.val < 34 := s.isLt; omega⟩) else none

theorem dec_enc (ks : KS) : dec (enc ks) = some ks := by
  unfold dec
  rw [dif_pos (Nat.le_add_left 6 _)]
  refine (congrArg (fun i => some (unidx i)) (Fin.ext ?_)).trans (congrArg some (unidx_idx ks))
  exact Nat.add_sub_cancel _ _

/-- The core of device `c`. -/
abbrev th (c : Dev nD) : Thread nD τ := (c : Thread nD τ)
abbrev barS : Sem sig := barrier0
/-- Device `c`'s barrier cell. -/
abbrev bc (c : Fin 4) : GSem nD τ sig := (th c, .reg barS)
/-- Device `c`'s cell of a transfer semaphore. -/
abbrev kc (c : Fin 4) (ks : KS) : GSem nD τ sig := (th c, .dma (enc ks))

/-- The units one transfer credits. -/
def N : ℕ := (rsPc 0 0).view.dmaCredit
theorem N_pos : 0 < N := View.dmaCredit_pos _ (by decide)

/-! ## The pieces held -/

/-- Half `h` of row `j` of device `c`'s buffer to send from, at `f`. -/
def ptPt (c : Fin 4) (j : Fin 3) (h : Fin 2) (f : Vec F S3x128x512 .bf16) : sProp 𝕄 :=
  iprop((ptM.view.loc (th c)) ↦[ptS j h]{fullShare} f)
/-- Row `j` of it. -/
def ptRow (c : Fin 4) (j : Fin 3) (f : Vec F S3x128x512 .bf16) : sProp 𝕄 :=
  iprop((ptM.view.loc (th c)) ↦[ptRowS j]{fullShare} f)
/-- Half `h` of slot `k` of device `c`'s buffer to receive in. -/
def rsPt (c : Fin 4) (k : Fin 4) (h : Fin 2) (f : Vec F S4x128x512 .bf16) : sProp 𝕄 :=
  iprop((rsM.view.loc (th c)) ↦[rsS k h]{fullShare} f)
/-- A share of half `h` of quarter `q` of device `c`'s result. -/
def outPtq (c : Fin 4) (q : Fin 4) (h : Fin 2) (s : PosShare TreeShare) (f : Vec F S2x256x512 .bf16) : sProp 𝕄 :=
  iprop((outM.view.loc (th c)) ↦[outS q h]{s} f)
abbrev outPt (c : Fin 4) (q : Fin 4) (h : Fin 2) (f : Vec F S2x256x512 .bf16) : sProp 𝕄 := outPtq c q h fullShare f

/-- The share of its own piece a device sends to the device `j + 1` after it. -/
abbrev third (j : Fin 3) : PosShare TreeShare := Ring.shares3 fullShare j

/-! ## The schedule -/

/-- What device `p` gives device `c` leave to write: half `h` of its slot `k`, and half `h` of `c`'s quarter of its result. -/
def grant (p c : Fin 4) (h : Fin 2) (k : Fin 4) : sProp 𝕄 :=
  iprop((∃ f, rsPt (F := F) p k h f) ∗ (∃ f, outPt (F := F) p c h f) ∗ reached ER (kc p (.rsR h k)) 0 ∗ reached ER (kc p (.agR h k)) 0)

/-- What device `c + d` pays device `c`'s barrier with. -/
def barPay (c d : Fin 4) : sProp 𝕄 := iprop(grant (F := F) (c + d) c 0 (-d) ∗ grant (F := F) (c + d) c 1 (-d))

/-- What a transfer semaphore is paid with. -/
def kPay (I : Fin 4 → Inp F) (c : Fin 4) : KS → sProp 𝕄
  | .rsS h j => ptPt c j h (PT I c)
  | .rsR h k => rsPt c k h (RS I c)
  | .agS h j => outPtq c c h (third j) (OUT I)
  | .agR h k => outPt c (c + k) h (OUT I)

/-- Whether one is paid at all: nothing is received from oneself. -/
def kDut : KS → Finset (Fin 4)
  | .rsS _ _ => {0}
  | .rsR _ k => if k = 0 then ∅ else {0}
  | .agS _ _ => {0}
  | .agR _ k => if k = 0 then ∅ else {0}

/-- The order of the waits: the barrier, the first exchange, the second. -/
def kLv : KS → ℕ
  | .rsS _ _ => 0
  | .rsR _ _ => 2
  | .agS _ _ => 0
  | .agR _ _ => 3

def dutiesOf : SemLoc sig → Finset (Fin 4)
  | .reg _ => {1, 2, 3}
  | .dma s => match dec s with
    | some ks => kDut ks
    | none => ∅

def payOf (I : Fin 4 → Inp F) (c : Fin 4) (d : Fin 4) : SemLoc sig → sProp 𝕄
  | .reg _ => barPay c d
  | .dma s => match dec s with
    | some ks => kPay I c ks
    | none => iprop(emp)

def amountOf : SemLoc sig → ℕ
  | .reg _ => 1
  | .dma _ => N

def sched (I : Fin 4 → Inp F) : Rounds.Schedule (GSem nD τ sig) (Fin 4) 𝕄 where
  duties g r := if r = 0 ∧ g.1.2 = .tc then dutiesOf g.2 else ∅
  unitless _ := False
  amount g _ _ := amountOf g.2
  payload g _ d := payOf I g.1.1 d g.2
  amount_pos g _ _ _ := by
    unfold amountOf
    split
    · exact Nat.one_pos
    · exact N_pos

instance grant_storable (p c : Fin 4) (h : Fin 2) (k : Fin 4) : BI.Storable (upEmb : UEmb _ 𝕄) (grant (F := F) p c h k) := by
  unfold grant rsPt outPt outPtq; infer_instance
instance barPay_storable (c d : Fin 4) : BI.Storable (upEmb : UEmb _ 𝕄) (barPay (F := F) c d) := by
  unfold barPay; infer_instance
instance kPay_storable (I : Fin 4 → Inp F) (c : Fin 4) (ks : KS) : BI.Storable (upEmb : UEmb _ 𝕄) (kPay I c ks) := by
  cases ks with
  | rsS h j => show BI.Storable upEmb (ptPt c j h (PT I c)); unfold ptPt; infer_instance
  | rsR h k => show BI.Storable upEmb (rsPt c k h (RS I c)); unfold rsPt; infer_instance
  | agS h j => show BI.Storable upEmb (outPtq c c h (third j) (OUT I)); unfold outPtq; infer_instance
  | agR h k => show BI.Storable upEmb (outPtq c (c + k) h fullShare (OUT I)); unfold outPtq; infer_instance
instance sched_storable (I : Fin 4 → Inp F) (g : GSem nD τ sig) (r : ℕ) (d : Fin 4) :
    BI.Storable (upEmb : UEmb _ 𝕄) ((sched I).payload g r d) := by
  show BI.Storable upEmb (payOf I g.1.1 d g.2)
  unfold payOf
  split
  · infer_instance
  · split <;> infer_instance

section Tables

variable (I : Fin 4 → Inp F) (c : Fin 4)

theorem duties_bar : (sched I).duties (bc c) 0 = {1, 2, 3} := by dsimp only [sched]; exact if_pos ⟨rfl, rfl⟩
theorem duties_k (ks : KS) : (sched I).duties (kc c ks) 0 = kDut ks := by
  dsimp only [sched]; rw [if_pos ⟨rfl, rfl⟩]; unfold dutiesOf; dsimp only; rw [dec_enc]
theorem duties_later (g : GSem nD τ sig) : ∀ r, 1 ≤ r → (sched I).duties g r = ∅ :=
  fun r hr => by dsimp only [sched]; rw [if_neg (fun h => by omega)]
theorem amount_bar (r : ℕ) (d : Fin 4) : (sched I).amount (bc c) r d = 1 := rfl
theorem amount_k (ks : KS) (r : ℕ) (d : Fin 4) : (sched I).amount (kc c ks) r d = N := rfl
theorem payload_bar (r : ℕ) (d : Fin 4) : (sched I).payload (bc c) r d = barPay c d := rfl
theorem payload_k (ks : KS) (r : ℕ) (d : Fin 4) : (sched I).payload (kc c ks) r d = kPay I c ks := by
  dsimp only [sched]; unfold payOf; dsimp only; rw [dec_enc]

theorem expect_bar : (sched I).expect (bc c) 0 = 3 := by
  unfold Schedule.expect Schedule.amountOf; rw [duties_bar]; rfl
theorem expect_k (ks : KS) (h : kDut ks = {0}) : (sched I).expect (kc c ks) 0 = N := by
  unfold Schedule.expect Schedule.amountOf; rw [duties_k, h, Finset.sum_singleton, amount_k]

theorem rest_bar : bigSep ((sched I).duties (bc c) 0 \ ∅) (fun d => (sched I).payload (bc c) 0 d)
    = iprop(barPay (F := F) c 1 ∗ barPay (F := F) c 2 ∗ barPay (F := F) c 3) := by
  rw [Finset.sdiff_empty, duties_bar, bigSep_insert (by decide), bigSep_insert (by decide), bigSep_singleton]; rfl
theorem rest_k (ks : KS) (h : kDut ks = {0}) :
    bigSep ((sched I).duties (kc c ks) 0 \ ∅) (fun d => (sched I).payload (kc c ks) 0 d) = kPay I c ks := by
  rw [Finset.sdiff_empty, duties_k, h, bigSep_singleton, payload_k]

end Tables

/-! ## What is owed, and the order of the waits -/

/-- The units still to be paid to the cells of a list, its head first. -/
def owedOf : List (GSem nD τ sig × ℕ) → CellTallies nD τ sig Unit
  | [] => 0
  | p :: l => owedOf l + tallyAt p.1 () p.2

def L (g : GSem nD τ sig) : Finset Unit := if g.1.2 = .tc then {()} else ∅
def lv (g : GSem nD τ sig) (_ : Unit) : ℕ :=
  match g.2 with
  | .reg _ => 1
  | .dma s => match dec s with
    | some ks => kLv ks
    | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Fin 4) : lv (bc c) () = 1 := rfl
theorem lv_k (c : Fin 4) (ks : KS) : lv (kc c ks) () = kLv ks := by
  unfold lv; dsimp only; rw [dec_enc]

/-- Only the cells of the list are owed anything. -/
theorem owedOf_pos {g : GSem nD τ sig} {u : Unit} : ∀ {l : List (GSem nD τ sig × ℕ)}, 0 < owedOf l g u → ∃ n, (g, n) ∈ l
  | [], h => absurd h (Nat.lt_irrefl 0)
  | p :: l, h => by
    unfold owedOf at h
    rw [Pi.add_apply, Finsupp.add_apply] at h
    rcases Nat.add_pos_iff_pos_or_pos.mp h with h | h
    · obtain ⟨n, hn⟩ := owedOf_pos h; exact ⟨n, List.mem_cons_of_mem _ hn⟩
    · rw [tallyAt_apply] at h
      split at h
      · next hg => exact ⟨p.2, by rw [hg.1]; exact List.mem_cons_self⟩
      · exact absurd h (Nat.lt_irrefl 0)

/-- A core may wait at a level every cell it still owes lies above. -/
theorem mayWait (c : Fin 4) (sm : SemLoc sig) (n : ℕ) (l : List (GSem nD τ sig × ℕ))
    (hc : lv (th c, sm) () ≤ n) (hl : ∀ p ∈ l, p.1.1.2 = .tc ∧ n < lv p.1 ()) :
    (levAts L lv : sProp 𝕄) ⊢ MayWait (th c) sm () (owedOf l) :=
  MayOwe.of_cut (L := L) (lev := lv) n (fun p hp => by rw [Finset.mem_singleton.mp hp, L_tc]; exact Finset.mem_singleton_self _)
    (fun g u hg => by
      obtain ⟨k, hk⟩ := owedOf_pos hg
      unfold L; rw [if_pos (hl _ hk).1]; exact Finset.mem_singleton_self _)
    (fun p hp => by rw [Finset.mem_singleton.mp hp]; exact hc)
    (fun g u hg => by
      obtain ⟨k, hk⟩ := owedOf_pos hg
      exact (hl _ hk).2)

/-- The units device `c` pays, in the order it pays them: the three barriers; -/
abbrev owBar (c : Fin 4) (n : Fin 3) : GSem nD τ sig × ℕ := (bc (peer c n), 1)
/-- the two halves of the row for each of the other devices; -/
abbrev owRs (c : Fin 4) (h : Fin 2) (j : Fin 3) : GSem nD τ sig × ℕ := (kc (peer c j) (.rsR h (slot j)), N)
/-- each half of its quarter of the result to each of the other devices. -/
abbrev owAg (c : Fin 4) (h : Fin 2) (j : Fin 3) : GSem nD τ sig × ℕ := (kc (peer c j) (.agR h (slot j)), N)

abbrev owed1 (c : Fin 4) : List (GSem nD τ sig × ℕ) := [owAg c 1 0, owAg c 1 1, owAg c 1 2]
abbrev owed2 (c : Fin 4) : List (GSem nD τ sig × ℕ) := owAg c 0 0 :: owAg c 0 1 :: owAg c 0 2 :: owed1 c
abbrev owed3 (c : Fin 4) : List (GSem nD τ sig × ℕ) :=
  owRs c 0 0 :: owRs c 1 0 :: owRs c 0 1 :: owRs c 1 1 :: owRs c 0 2 :: owRs c 1 2 :: owed2 c
abbrev owed4 (c : Fin 4) : List (GSem nD τ sig × ℕ) := owBar c 0 :: owBar c 1 :: owBar c 2 :: owed3 c

theorem owRs_lv (c : Fin 4) (h : Fin 2) (j : Fin 3) : (owRs c h j).1.1.2 = .tc ∧ lv (owRs c h j).1 () = 2 := ⟨rfl, lv_k _ _⟩
theorem owAg_lv (c : Fin 4) (h : Fin 2) (j : Fin 3) : (owAg c h j).1.1.2 = .tc ∧ lv (owAg c h j).1 () = 3 := ⟨rfl, lv_k _ _⟩
theorem owBar_lv (c : Fin 4) (n : Fin 3) : (owBar c n).1.1.2 = .tc ∧ lv (owBar c n).1 () = 1 := ⟨rfl, rfl⟩

/-- Every cell owed lies on a core and, past the barriers, above level 1. -/
theorem owed1_above (c : Fin 4) : ∀ p ∈ owed1 c, p.1.1.2 = .tc ∧ 2 < lv p.1 () := by
  intro p hp
  simp only [owed1, List.mem_cons, List.not_mem_nil, or_false] at hp
  rcases hp with rfl | rfl | rfl <;> exact ⟨rfl, by rw [(owAg_lv c _ _).2]; decide⟩
/-- A list is above a level if its head and its tail are. -/
theorem above_cons {n : ℕ} {p : GSem nD τ sig × ℕ} {l : List (GSem nD τ sig × ℕ)} (hp : p.1.1.2 = .tc ∧ n < lv p.1 ())
    (hl : ∀ p ∈ l, p.1.1.2 = .tc ∧ n < lv p.1 ()) : ∀ q ∈ p :: l, q.1.1.2 = .tc ∧ n < lv q.1 () := by
  intro q hq
  rcases List.mem_cons.mp hq with rfl | hq
  · exact hp
  · exact hl q hq
theorem ag_above (c : Fin 4) (h : Fin 2) (j : Fin 3) : (owAg c h j).1.1.2 = .tc ∧ 2 < lv (owAg c h j).1 () :=
  ⟨rfl, by rw [(owAg_lv c h j).2]; decide⟩
theorem rs_above (c : Fin 4) (h : Fin 2) (j : Fin 3) : (owRs c h j).1.1.2 = .tc ∧ 1 < lv (owRs c h j).1 () :=
  ⟨rfl, by rw [(owRs_lv c h j).2]; decide⟩
theorem bar_above (c : Fin 4) (n : Fin 3) : (owBar c n).1.1.2 = .tc ∧ 0 < lv (owBar c n).1 () :=
  ⟨rfl, by rw [(owBar_lv c n).2]; decide⟩
theorem owed2_above (c : Fin 4) : ∀ p ∈ owed2 c, p.1.1.2 = .tc ∧ 2 < lv p.1 () :=
  above_cons (ag_above c 0 0) (above_cons (ag_above c 0 1) (above_cons (ag_above c 0 2) (owed1_above c)))
theorem owed3_above (c : Fin 4) : ∀ p ∈ owed3 c, p.1.1.2 = .tc ∧ 1 < lv p.1 () :=
  above_cons (rs_above c 0 0) (above_cons (rs_above c 1 0) (above_cons (rs_above c 0 1) (above_cons (rs_above c 1 1)
    (above_cons (rs_above c 0 2) (above_cons (rs_above c 1 2)
      fun p hp => ⟨(owed2_above c p hp).1, lt_trans (by decide) (owed2_above c p hp).2⟩)))))
theorem owed4_above (c : Fin 4) : ∀ p ∈ owed4 c, p.1.1.2 = .tc ∧ 0 < lv p.1 () :=
  above_cons (bar_above c 0) (above_cons (bar_above c 1) (above_cons (bar_above c 2)
    fun p hp => ⟨(owed3_above c p hp).1, lt_trans (by decide) (owed3_above c p hp).2⟩))

end Cert.KernelIdeal.Hand

end
-- ==== Proof.Steps.lean ====
/- One step of the body each: a signal, the barrier wait, the sends of the two exchanges, the waits, and the loads and stores
   of the pieces. Each is stated for every device, half and destination. -/
module

public import proofs.«01_k».proof.Proof.Sched

@[expose] public section

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## What every device may consult -/

def barEmb : Dev nD ↪ GSem nD τ sig := ⟨fun c => bc c, fun _ _ h => congrArg (fun g : GSem nD τ sig => g.1.1) h⟩
theorem osem_inj : Function.Injective osem := by decide
def scEmb : Dev nD × Fin 28 ↪ GSem nD τ sig :=
  ⟨fun ck => (th ck.1, osem ck.2), fun _ _ h =>
    Prod.ext (congrArg (fun g : GSem nD τ sig => g.1.1) h) (osem_inj (congrArg Prod.snd h))⟩

/-- The barrier cells. -/
abbrev barCells : Finset (GSem nD τ sig) := Finset.univ.map barEmb
/-- The cells of the transfer semaphores. -/
abbrev scCells : Finset (GSem nD τ sig) := Finset.univ.map scEmb

/-- Every cell's invariant, round 0 of every barrier reached, and the order of the waits. -/
def recs (I : Fin 4 → Inp F) (K : GSem nD τ sig → ℕ) : sProp 𝕄 :=
  iprop((bigSep (barCells ∪ scCells) fun g => cellInv ER (sched I) (K g) g) ∗ (bigSep barCells fun g => reached ER g 0) ∗ levAts L lv)

instance recs_persistent (I : Fin 4 → Inp F) (K : GSem nD τ sig → ℕ) : BI.Persistent (recs I K) := by unfold recs; infer_instance

variable (I : Fin 4 → Inp F) (K : GSem nD τ sig → ℕ) (c : Fin 4)

theorem recs_bar : recs I K ⊢ cellInv ER (sched I) (K (bc c)) (bc c) := by
  have h : (bigSep (barCells ∪ scCells) fun g => cellInv ER (sched I) (K g) g : sProp 𝕄) ⊢ cellInv ER (sched I) (K (bc c)) (bc c) :=
    bigSep_elim (Finset.mem_union_left _ (Finset.mem_map_of_mem barEmb (Finset.mem_univ c)))
  unfold recs
  iintro ⟨H, -⟩
  iapply h
  iexact H
theorem recs_k (ks : KS) : recs I K ⊢ cellInv ER (sched I) (K (kc c ks)) (kc c ks) := by
  have h : (bigSep (barCells ∪ scCells) fun g => cellInv ER (sched I) (K g) g : sProp 𝕄) ⊢ cellInv ER (sched I) (K (kc c ks)) (kc c ks) :=
    bigSep_elim (Finset.mem_union_right _ (Finset.mem_map_of_mem scEmb (Finset.mem_univ (c, idx ks))))
  unfold recs
  iintro ⟨H, -⟩
  iapply h
  iexact H
theorem recs_reached : recs I K ⊢ reached ER (bc c) 0 := by
  have h : (bigSep barCells fun g => reached ER g 0 : sProp 𝕄) ⊢ reached ER (bc c) 0 :=
    bigSep_elim (Finset.mem_map_of_mem barEmb (Finset.mem_univ c))
  unfold recs
  iintro ⟨-, H, -⟩
  iapply h
  iexact H
theorem recs_lev : recs I K ⊢ levAts L lv := by
  unfold recs
  iintro ⟨-, -, H⟩
  iexact H

/-! ## What a device carries through the body -/

/-- It owes the units of a list. -/
def ow (l : List (GSem nD τ sig × ℕ)) : sProp 𝕄 := iprop(∃ W, owes (th c) (owedOf l) W)
/-- To make the first exchange's transfer of half `h` to the device `j + 1` after it. -/
def rsPack (h : Fin 2) (j : Fin 3) : sProp 𝕄 :=
  iprop(dutyTok ER (kc c (.rsS h j)) 0 0 ∗ dutyTok ER (kc (peer c j) (.rsR h (slot j))) 0 0 ∗ atPos ER (kc c (.rsS h j)) 0 ∅ 0
    ∗ reached ER (kc c (.rsS h j)) 0)
/-- To make the second's. -/
def agPack (h : Fin 2) (j : Fin 3) : sProp 𝕄 :=
  iprop(dutyTok ER (kc c (.agS h j)) 0 0 ∗ dutyTok ER (kc (peer c j) (.agR h (slot j))) 0 0 ∗ atPos ER (kc c (.agS h j)) 0 ∅ 0
    ∗ reached ER (kc c (.agS h j)) 0)
/-- To wait for a transfer. -/
def fly (ks : KS) : sProp 𝕄 := iprop(cred (tallyAt (kc c ks) () N) ∗ atPos ER (kc c ks) 0 ∅ 0)

theorem barPay_peer (n : Fin 3) : barPay (F := F) (peer c n) (slot n) = iprop(grant (F := F) c (peer c n) 0 n.succ ∗ grant (F := F) c (peer c n) 1 n.succ) := by
  unfold barPay; rw [peer_slot, show -(slot n) = n.succ from neg_neg _]
theorem slot_mem (n : Fin 3) : slot n ∈ ({1, 2, 3} : Finset (Fin 4)) := by revert n; decide

/-- A signal: the device gives leave to write its slot and its copy of the other's quarter. -/
theorem step_signal (n : Fin 3) (d : Dev nD) (hd : d = peer c n) (s : Sem sig) (hs : s = barS) (z : ℤ) (hz : z = 1)
    (l : List (GSem nD τ sig × ℕ)) {α : Type} (k : PUnit → Prog (TpuEff nD τ sig (Elt F) Λ₀ .tc) α) (Q : α → sProp 𝕄) :
    iprop(recs I K ∗ ow c (owBar c n :: l) ∗ dutyTok ER (bc (peer c n)) 0 (slot n)
        ∗ grant c (peer c n) 0 n.succ ∗ grant c (peer c n) 1 n.succ)
      ⊢ iprop((ow c l -∗ wp frame (wpE (defs₀ (F := F)) 𝒱₀ (th c) none) Set.univ (k ⟨⟩) Q) -∗ wp frame (wpE (defs₀ (F := F)) 𝒱₀ (th c) none) Set.univ (.op (.semSignal (Dev.tc d) s z) k) Q) := by
  subst hd hs
  obtain rfl : z = ((1 : ℕ) : ℤ) := hz
  unfold ow
  iintro ⟨#HR, ⟨%W, HO⟩, Ht, Hg0, Hg1⟩ Hk
  iapply (Rounds.wp_signal 𝒱₀ ER (sched I) (th c) none (dst := th (peer c n)) (sem := barS) (r := 0) (d := slot n) (κ := K (bc (peer c n)))
      (by rw [duties_bar]; exact slot_mem n) (amount_bar I (peer c n) 0 (slot n)) () (owedOf l) rfl) $$ [HO Ht Hg0 Hg1]
  · isplitr; · iapply (recs_bar I K (peer c n)); iexact HR
    isplitl [HO]; · iexact HO
    isplitl [Ht]; · iexact Ht
    isplitl [Hg0 Hg1]
    · rw [payload_bar, barPay_peer]
      isplitl [Hg0] <;> iassumption
    · iapply (recs_reached I K (peer c n)); iexact HR
  iintro HO
  iapply Hk
  iexists W; iexact HO

theorem close (g : GSem nD τ sig) (κ R : ℕ) (hR : ∀ r, R ≤ r → (sched I).duties g r = ∅) :
    iprop(cellInv ER (sched I) κ g ∗ atPos ER g R ∅ 0) ⊢ (|={Set.univ}=> semVal g 0 : sProp 𝕄) :=
  Rounds.cell_close ER (sched I) (Set.mem_univ κ) id hR

/-- The barrier wait: the other devices' leave to write. -/
theorem step_barwait (s : Sem sig) (hs : s = barS) (z : ℤ) (hz : z = 3)
    (l : List (GSem nD τ sig × ℕ)) (hl : ∀ p ∈ l, p.1.1.2 = .tc ∧ 1 < lv p.1 ())
    {α : Type} (k : PUnit → Prog (TpuEff nD τ sig (Elt F) Λ₀ .tc) α) (Q : α → sProp 𝕄) :
    iprop(recs I K ∗ ow c l ∗ cred (tallyAt (bc c) () 3) ∗ atPos ER (bc c) 0 ∅ 0)
      ⊢ iprop(((ow c l ∗ semVal (bc c) 0 ∗ barPay c 1 ∗ barPay c 2 ∗ barPay c 3) -∗ wp frame (wpE (defs₀ (F := F)) 𝒱₀ (th c) none) Set.univ (k ⟨⟩) Q)
        -∗ wp frame (wpE (defs₀ (F := F)) 𝒱₀ (th c) none) Set.univ (.op (.semWait s z) k) Q) := by
  subst hs
  obtain rfl : z = ((3 : ℕ) : ℤ) := hz
  unfold ow
  iintro ⟨#HR, ⟨%W, HO⟩, Hc, Hat⟩ Hk
  iapply (Rounds.wp_wait_rest_token 𝒱₀ ER (sched I) (th c) none (κ := K (bc c))
      (wpE_semWait_eq 𝒱₀ (th c) none Set.univ) (Set.mem_univ _) () (O := owedOf l) (W := W) (R := 0) (m := 0) (T := ∅)
      ((Nat.zero_add 3).trans (expect_bar I c).symm)) $$ [Hc HO Hat]
  · isplitr; · iapply (recs_bar I K c); iexact HR
    isplitl [Hc]; · iexact Hc
    isplitl [HO]; · iexact HO
    isplitr
    · iapply (mayWait c (.reg barS) 1 l (le_of_eq (lv_bar c)) hl); iapply (recs_lev I K); iexact HR
    iexact Hat
  iintro ⟨HO, Hat, -, Hpay⟩
  ihave Hp := (Entails.of_eq (rest_bar I c)) $$ Hpay
  imod (close I (bc c) (K (bc c)) 1 (duties_later I (bc c))) $$ [Hat] with Hs
  · isplitr; · iapply (recs_bar I K c); iexact HR
    iexact Hat
  iapply Hk
  isplitl [HO]; · iexists _; iexact HO
  isplitl [Hs]; · iexact Hs
  iexact Hp

/-- A transfer's wait: what it moved comes back, and its counter. -/
theorem step_wait (ks : KS) (hk : kDut ks = {0}) (P : sProp 𝕄) (hP : kPay I c ks = P) (s : DmaSem sig) (hs : s = enc ks)
    (l : List (GSem nD τ sig × ℕ)) (hl : ∀ p ∈ l, p.1.1.2 = .tc ∧ kLv ks < lv p.1 ())
    {sp sp' : Space} {sh sh' : Shape} {e e' : EltTy} (src : Memref sig .tc sp' sh' e') (dst : Memref sig .tc sp sh e)
    (h1 : src.view.WordExact) (h2 : dst.view.WordExact) (hN : dst.view.dmaCredit = N)
    {α : Type} (k : PUnit → Prog (TpuEff nD τ sig (Elt F) Λ₀ .tc) α) (Q : α → sProp 𝕄) :
    iprop(recs I K ∗ ow c l ∗ fly c ks)
      ⊢ iprop(((ow c l ∗ semVal (kc c ks) 0 ∗ P) -∗ wp frame (wpE (defs₀ (F := F)) 𝒱₀ (th c) none) Set.univ (k ⟨⟩) Q)
        -∗ wp frame (wpE (defs₀ (F := F)) 𝒱₀ (th c) none) Set.univ (.op (.waitDma2 s src dst h1 h2) k) Q) := by
  subst hs hP
  unfold ow fly
  iintro ⟨#HR, ⟨%W, HO⟩, Hc, Hat⟩ Hk
  iapply (Rounds.wp_wait_rest_token 𝒱₀ ER (sched I) (th c) none (κ := K (kc c ks))
      (wpE_waitDma2_eq (src := src) (dst := dst) (hsrc := h1) (hdst := h2) 𝒱₀ (th c) none Set.univ) (Set.mem_univ _) () (O := owedOf l) (W := W) (R := 0) (m := 0) (T := ∅)
      ((Nat.zero_add _).trans (hN.trans (expect_k I c ks hk).symm))) $$ [Hc HO Hat]
  · isplitr; · iapply (recs_k I K c ks); iexact HR
    isplitl [Hc]; · rw [hN]; iexact Hc
    isplitl [HO]; · iexact HO
    isplitr
    · iapply (mayWait c (.dma (enc ks)) (kLv ks) l (le_of_eq (lv_k c ks)) hl); iapply (recs_lev I K); iexact HR
    iexact Hat
  iintro ⟨HO, Hat, -, Hpay⟩
  ihave Hp := (Entails.of_eq (rest_k I c ks hk)) $$ Hpay
  imod (close I (kc c ks) (K (kc c ks)) 1 (duties_later I (kc c ks))) $$ [Hat] with Hs
  · isplitr; · iapply (recs_k I K c ks); iexact HR
    iexact Hat
  iapply Hk
  isplitl [HO]; · iexists _; iexact HO
  isplitl [Hs]; · iexact Hs
  iexact Hp

/-- A cell nothing is paid to is closed where it was opened. -/
theorem close_unused (ks : KS) (hk : kDut ks = ∅) :
    iprop(recs I K ∗ atPos ER (kc c ks) 0 ∅ 0) ⊢ (|={Set.univ}=> semVal (kc c ks) 0 : sProp 𝕄) := by
  iintro ⟨#HR, Hat⟩
  iapply (close I (kc c ks) (K (kc c ks)) 0 (fun r _ => by
    rcases Nat.eq_zero_or_pos r with rfl | h
    · rw [duties_k, hk]
    · exact duties_later I (kc c ks) r h))
  isplitr; · iapply (recs_k I K c ks); iexact HR
  iexact Hat

theorem kDut_rsR (h : Fin 2) (j : Fin 3) : kDut (.rsR h (slot j)) = {0} := if_neg (slot_ne j)
theorem kDut_agR (h : Fin 2) (j : Fin 3) : kDut (.agR h (slot j)) = {0} := if_neg (slot_ne j)

/-- A transfer of the first exchange starts. -/
theorem step_rs (h : Fin 2) (j : Fin 3) (d : Dev nD) (hd : d = peer c j)
    (src dst : Memref sig .tc .vmem S64x512 .bf16) (hsr : src = ptPc j h) (hds : dst = rsPc (slot j) h)
    (s1 s2 : DmaSem sig) (hs1 : s1 = enc (.rsS h j)) (hs2 : s2 = enc (.rsR h (slot j)))
    (l : List (GSem nD τ sig × ℕ)) {hsc : dst.view.ref.isScScratch = false} {h1 : src.view.WordExact} {h2 : dst.view.WordExact}
    {h3 : DmaTarget.Typed .vmem (.dma s2) (.remote (Dev.tc d : Thread nD τ) dst (.dma s1) hsc)}
    {α : Type} (k : PUnit → Prog (TpuEff nD τ sig (Elt F) Λ₀ .tc) α) (Q : α → sProp 𝕄) :
    iprop(recs I K ∗ ow c (owRs c h j :: l) ∗ rsPack c h j ∗ ptPt c j h (PT I c)
        ∗ (∃ f, rsPt (F := F) (peer c j) (slot j) h f) ∗ reached ER (kc (peer c j) (.rsR h (slot j))) 0)
      ⊢ iprop(((ow c l ∗ fly c (.rsS h j)) -∗ wp frame (wpE (defs₀ (F := F)) 𝒱₀ (th c) none) Set.univ (k ⟨⟩) Q)
        -∗ wp frame (wpE (defs₀ (F := F)) 𝒱₀ (th c) none) Set.univ (.op (.enqueueDma src (.remote (Dev.tc d) dst (.dma s1) hsc) (.dma s2) h1 h2 h3) k) Q) := by
  subst hd hsr hds hs1 hs2
  unfold ow rsPack fly ptPt rsPt
  iintro ⟨#HR, ⟨%W, HO⟩, ⟨Ht1, Ht2, Hat, #Hr1⟩, Hs, ⟨%fd, Hd⟩, #Hr2⟩ Hk
  iapply (Rounds.wp_send_pointsTo 𝒱₀ ER (sched I) (th c) none (c' := th (peer c j)) (src := ptPc j h) (dst := rsPc (slot j) h)
      (sS := .dma (enc (.rsS h j))) (sem := .dma (enc (.rsR h (slot j)))) (q := fullShare) (fs := PT I c)
      (κ₁ := K (kc c (.rsS h j))) (κ₂ := K (kc (peer c j) (.rsR h (slot j))))
      (r₁ := 0) (r₂ := 0) (d₁ := 0) (d₂ := 0) (fd := fd)
      (by rw [duties_k]; exact Finset.mem_singleton_self _) (by rw [duties_k, kDut_rsR]; exact Finset.mem_singleton_self _)
      () () N rfl (amount_k I c (.rsS h j) 0 0) (amount_k I (peer c j) (.rsR h (slot j)) 0 0) (owedOf l) rfl (W := W)
      (by rw [payload_k, ptPc_set]; exact BI.Entails.refl _)
      (by
        rw [payload_k, rsPc_set]
        exact Entails.of_eq (pointsTo_congr fun i hi => rs_land I c j h fd i hi))) $$ [Hs Hd HO Ht1 Ht2]
  · isplitr; · iapply (recs_k I K c (.rsS h j)); iexact HR
    isplitr; · iapply (recs_k I K (peer c j) (.rsR h (slot j))); iexact HR
    isplitl [Hs]; · rw [ptPc_set]; iexact Hs
    isplitl [Hd]; · rw [rsPc_set]; iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  isplitl [Hc] <;> iassumption

/-- A transfer of the second exchange starts. -/
theorem step_ag (h : Fin 2) (j : Fin 3) (d : Dev nD) (hd : d = peer c j)
    (src dst : Memref sig .tc .vmem S64x512 .bf16) (hsr : src = outPc c h) (hds : dst = outPc c h)
    (s1 s2 : DmaSem sig) (hs1 : s1 = enc (.agS h j)) (hs2 : s2 = enc (.agR h (slot j)))
    (l : List (GSem nD τ sig × ℕ)) {hsc : dst.view.ref.isScScratch = false} {h1 : src.view.WordExact} {h2 : dst.view.WordExact}
    {h3 : DmaTarget.Typed .vmem (.dma s2) (.remote (Dev.tc d : Thread nD τ) dst (.dma s1) hsc)}
    {α : Type} (k : PUnit → Prog (TpuEff nD τ sig (Elt F) Λ₀ .tc) α) (Q : α → sProp 𝕄) :
    iprop(recs I K ∗ ow c (owAg c h j :: l) ∗ agPack c h j ∗ outPtq c c h (third j) (OUT I)
        ∗ (∃ f, outPt (F := F) (peer c j) c h f) ∗ reached ER (kc (peer c j) (.agR h (slot j))) 0)
      ⊢ iprop(((ow c l ∗ fly c (.agS h j)) -∗ wp frame (wpE (defs₀ (F := F)) 𝒱₀ (th c) none) Set.univ (k ⟨⟩) Q)
        -∗ wp frame (wpE (defs₀ (F := F)) 𝒱₀ (th c) none) Set.univ (.op (.enqueueDma src (.remote (Dev.tc d) dst (.dma s1) hsc) (.dma s2) h1 h2 h3) k) Q) := by
  subst hd hsr hds hs1 hs2
  unfold ow agPack fly outPt outPtq
  iintro ⟨#HR, ⟨%W, HO⟩, ⟨Ht1, Ht2, Hat, #Hr1⟩, Hs, ⟨%fd, Hd⟩, #Hr2⟩ Hk
  iapply (Rounds.wp_send_pointsTo 𝒱₀ ER (sched I) (th c) none (c' := th (peer c j)) (src := outPc c h) (dst := outPc c h)
      (sS := .dma (enc (.agS h j))) (sem := .dma (enc (.agR h (slot j)))) (q := third j) (fs := OUT I)
      (κ₁ := K (kc c (.agS h j))) (κ₂ := K (kc (peer c j) (.agR h (slot j))))
      (r₁ := 0) (r₂ := 0) (d₁ := 0) (d₂ := 0) (fd := fd)
      (by rw [duties_k]; exact Finset.mem_singleton_self _) (by rw [duties_k, kDut_agR]; exact Finset.mem_singleton_self _)
      () () N rfl (amount_k I c (.agS h j) 0 0) (amount_k I (peer c j) (.agR h (slot j)) 0 0) (owedOf l) rfl (W := W)
      (by rw [payload_k, outPc_set]; exact BI.Entails.refl _)
      (by
        rw [payload_k, outPc_set]
        show _ ⊢ outPtq (peer c j) (peer c j + slot j) h fullShare (OUT I)
        rw [peer_slot]
        exact Entails.of_eq (pointsTo_congr fun i hi => out_land I c h fd i hi))) $$ [Hs Hd HO Ht1 Ht2]
  · isplitr; · iapply (recs_k I K c (.agS h j)); iexact HR
    isplitr; · iapply (recs_k I K (peer c j) (.agR h (slot j))); iexact HR
    isplitl [Hs]; · rw [outPc_set]; iexact Hs
    isplitl [Hd]; · rw [outPc_set]; iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  isplitl [Hc] <;> iassumption

end Cert.KernelIdeal.Hand

end
-- ==== Proof.Store.lean ====
/- The loads and stores of the pieces, and the buffers split into their pieces and joined back. -/
module

public import proofs.«01_k».proof.Proof.Steps
public import Idealize.ShloMosaic.Lib.Ring

@[expose] public section

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (I : Fin 4 → Inp F) (c : Fin 4)

/-! ## Halves and thirds -/

theorem ptRow_halves (j : Fin 3) (f : Vec F S3x128x512 .bf16) : ptRow c j f ⊢ iprop(ptPt c j 0 f ∗ ptPt c j 1 f) := by
  unfold ptRow ptPt
  have hd : Disjoint (ptS j 0) (ptS j 1) := Finset.disjoint_left.mpr fun i h0 h1 => by
    rw [mem_ptS] at h0 h1; have := h0.2.symm.trans h1.2; exact absurd this (by decide)
  have hu : ptRowS j = ptS j 0 ∪ ptS j 1 := by
    ext i
    rw [Finset.mem_union, mem_ptS, mem_ptS, mem_ptRowS]
    have h1 : (i 1).val < 128 := (i 1).isLt
    constructor
    · intro h
      rcases Nat.lt_or_ge (i 1).val 64 with h2 | h2
      · exact .inl ⟨h, Nat.div_eq_of_lt h2⟩
      · exact .inr ⟨h, by show (i 1).val / 64 = 1; omega⟩
    · rintro (h | h) <;> exact h.1
  rw [hu]
  exact (pointsTo_union hd).1

theorem out_thirds (q : Fin 4) (h : Fin 2) (f : Vec F S2x256x512 .bf16) :
    (outPt c q h f : sProp 𝕄) ⊣⊢ iprop(outPtq c q h (third 0) f ∗ outPtq c q h (third 1) f ∗ outPtq c q h (third 2) f) :=
  Ring.pointsTo_thirds _ _

/-! ## Loads and stores -/

/-- The load of a row that its store overwrites. -/
theorem step_ptload (j : Fin 3) (off : Fin 3 → ℕ) (hoff : off = ![j.val, 0, 0]) (inb : ∀ a, off a + S1x128x512.size a ≤ S3x128x512.size a)
    {hl : ptM.view.LoadsAt (Rect.unit (s := S3x128x512) off S1x128x512.size inb).toLoadRect}
    {α : Type} (k : Vec F S1x128x512 .bf16 → Prog (TpuEff nD τ sig (Elt F) Λ₀ .tc) α) (Q : α → sProp 𝕄) :
    iprop(∃ f, ptRow c j f) ⊢ iprop((∀ v, (∃ f, ptRow c j f) -∗ wp frame (wpE (defs₀ (F := F)) 𝒱₀ (th c) none) Set.univ (k v) Q)
      -∗ wp frame (wpE (defs₀ (F := F)) 𝒱₀ (th c) none) Set.univ (.op (.load ptM (Rect.unit (s := S3x128x512) off S1x128x512.size inb).toLoadRect hl) k) Q) := by
  subst hoff
  unfold ptRow
  iintro ⟨%f, H⟩ Hk
  iapply (wp_load_rect 𝒱₀ (th c) none Set.univ (m := ptM) (r := Rect.unit (s := S3x128x512) ![j.val, 0, 0] S1x128x512.size inb)
    (S := ptRowS j) (q := fullShare) (f := f) (le_of_eq (ptRow_set j))) $$ [H]
  · iexact H
  iintro H
  iapply Hk
  iexists f; iexact H

/-- The store of a row. -/
theorem step_ptstore (j : Fin 3) (off : Fin 3 → ℕ) (hoff : off = ![j.val, 0, 0]) (inb : ∀ a, off a + S1x128x512.size a ≤ S3x128x512.size a)
    (w : Vec F S1x128x512 .bf16) (hw : w = shapeCast S1x128x512 (part (I c) (peer c j)) shapeCasts_S128x512_S1x128x512)
    {hx : (ptM.access (Rect.unit (s := S3x128x512) off S1x128x512.size inb)).Stores Finset.univ}
    {hm : (Finset.univ : Finset (Rect.unit (s := S3x128x512) off S1x128x512.size inb).shape.Idx) = Finset.univ
      ∨ ∀ a, (Rect.unit (s := S3x128x512) off S1x128x512.size inb).stride a = 1}
    {α : Type} (k : PUnit → Prog (TpuEff nD τ sig (Elt F) Λ₀ .tc) α) (Q : α → sProp 𝕄) :
    iprop(∃ f, ptRow c j f) ⊢ iprop(((ptPt c j 0 (PT I c) ∗ ptPt c j 1 (PT I c)) -∗ wp frame (wpE (defs₀ (F := F)) 𝒱₀ (th c) none) Set.univ (k ⟨⟩) Q)
      -∗ wp frame (wpE (defs₀ (F := F)) 𝒱₀ (th c) none) Set.univ (.op (.store ptM (Rect.unit (s := S3x128x512) off S1x128x512.size inb) w Finset.univ hx hm) k) Q) := by
  subst hoff hw
  have hh := ptRow_halves c j (PT I c)
  unfold ptRow at *
  iintro ⟨%f, H⟩ Hk
  iapply (wp_store 𝒱₀ (th c) none Set.univ (m := ptM) (r := Rect.unit (s := S3x128x512) ![j.val, 0, 0] S1x128x512.size inb)
    (S := ptRowS j) (f := f) (by rw [View.setOn_univ, ptRow_set])) $$ [H]
  · iexact H
  iintro H
  iapply Hk
  iapply hh
  iapply (Entails.of_eq (pointsTo_congr (pt_store I c j f)))
  iexact H

/-- The load of a received half. -/
theorem step_rsload (n : Fin 4) (h : Fin 2) (off : Fin 3 → ℕ) (hoff : off = pcOff n h) (inb : ∀ a, off a + S1x64x512.size a ≤ S4x128x512.size a)
    {hl : rsM.view.LoadsAt (Rect.unit (s := S4x128x512) off S1x64x512.size inb).toLoadRect} (f : Vec F S4x128x512 .bf16)
    {α : Type} (k : Vec F S1x64x512 .bf16 → Prog (TpuEff nD τ sig (Elt F) Λ₀ .tc) α) (Q : α → sProp 𝕄) :
    rsPt c n h f ⊢ iprop((rsPt c n h f -∗ wp frame (wpE (defs₀ (F := F)) 𝒱₀ (th c) none) Set.univ (k (rsBlk f n h)) Q)
      -∗ wp frame (wpE (defs₀ (F := F)) 𝒱₀ (th c) none) Set.univ (.op (.load rsM (Rect.unit (s := S4x128x512) off S1x64x512.size inb).toLoadRect hl) k) Q) := by
  subst hoff
  unfold rsPt
  exact (wp_load_rect 𝒱₀ (th c) none Set.univ (m := rsM) (r := Rect.unit (s := S4x128x512) (pcOff n h) S1x64x512.size inb)
    (S := rsS n h) (q := fullShare) (f := f) (le_of_eq (by rw [← rsPc_set]; exact (View.set_reshape _ _).symm)))

/-- The load of the own half that its store overwrites. -/
theorem step_outload (q : Fin 4) (h : Fin 2) (off : Fin 3 → ℕ) (hoff : off = outOff q h) (inb : ∀ a, off a + S1x64x512.size a ≤ S2x256x512.size a)
    {hl : outM.view.LoadsAt (Rect.unit (s := S2x256x512) off S1x64x512.size inb).toLoadRect}
    {α : Type} (k : Vec F S1x64x512 .bf16 → Prog (TpuEff nD τ sig (Elt F) Λ₀ .tc) α) (Q : α → sProp 𝕄) :
    iprop(∃ f, outPt c q h f) ⊢ iprop((∀ v, (∃ f, outPt c q h f) -∗ wp frame (wpE (defs₀ (F := F)) 𝒱₀ (th c) none) Set.univ (k v) Q)
      -∗ wp frame (wpE (defs₀ (F := F)) 𝒱₀ (th c) none) Set.univ (.op (.load outM (Rect.unit (s := S2x256x512) off S1x64x512.size inb).toLoadRect hl) k) Q) := by
  subst hoff
  unfold outPt outPtq
  iintro ⟨%f, H⟩ Hk
  iapply (wp_load_rect 𝒱₀ (th c) none Set.univ (m := outM) (r := Rect.unit (s := S2x256x512) (outOff q h) S1x64x512.size inb)
    (S := outS q h) (q := fullShare) (f := f) (le_of_eq (by rw [← outPc_set]; exact (View.set_reshape _ _).symm))) $$ [H]
  · iexact H
  iintro H
  iapply Hk
  iexists f; iexact H

/-- The store of a half of the own quarter. -/
theorem step_outstore (h : Fin 2) (off : Fin 3 → ℕ) (hoff : off = outOff c h) (inb : ∀ a, off a + S1x64x512.size a ≤ S2x256x512.size a)
    (w : Vec F S1x64x512 .bf16) (hw : w = redHalf (part (I c) c) (RS I c) h)
    {hx : (outM.access (Rect.unit (s := S2x256x512) off S1x64x512.size inb)).Stores Finset.univ}
    {hm : (Finset.univ : Finset (Rect.unit (s := S2x256x512) off S1x64x512.size inb).shape.Idx) = Finset.univ
      ∨ ∀ a, (Rect.unit (s := S2x256x512) off S1x64x512.size inb).stride a = 1}
    {α : Type} (k : PUnit → Prog (TpuEff nD τ sig (Elt F) Λ₀ .tc) α) (Q : α → sProp 𝕄) :
    iprop(∃ f, outPt c c h f) ⊢ iprop(((outPtq c c h (third 0) (OUT I) ∗ outPtq c c h (third 1) (OUT I) ∗ outPtq c c h (third 2) (OUT I)) -∗ wp frame (wpE (defs₀ (F := F)) 𝒱₀ (th c) none) Set.univ (k ⟨⟩) Q)
      -∗ wp frame (wpE (defs₀ (F := F)) 𝒱₀ (th c) none) Set.univ (.op (.store outM (Rect.unit (s := S2x256x512) off S1x64x512.size inb) w Finset.univ hx hm) k) Q) := by
  subst hoff hw
  have hh := (out_thirds c c h (OUT I)).1
  unfold outPt outPtq at *
  iintro ⟨%f, H⟩ Hk
  iapply (wp_store 𝒱₀ (th c) none Set.univ (m := outM) (r := Rect.unit (s := S2x256x512) (outOff c h) S1x64x512.size inb)
    (S := outS c h) (f := f) (by rw [View.setOn_univ, ← outPc_set]; exact le_of_eq (View.set_reshape _ _).symm)) $$ [H]
  · iexact H
  iintro H
  iapply Hk
  iapply hh
  iapply (Entails.of_eq (pointsTo_congr (out_store I c h f)))
  iexact H

/-! ## The buffers, split and joined -/

/-- The rows of the buffer sent from. -/
def ptRows (p : Fin 3) : Finset (Idx (ptM.view.loc (th c))) := ptRowS p
/-- Its half rows. -/
def ptHalves (p : Fin 3 × Fin 2) : Finset (Idx (ptM.view.loc (th c))) := ptS p.1 p.2
/-- The half slots of the buffer received in. -/
def rsHalves (p : Fin 4 × Fin 2) : Finset (Idx (rsM.view.loc (th c))) := rsS p.1 p.2
/-- The half quarters of the result, from the device's own on. -/
def outHalves (p : Fin 4 × Fin 2) : Finset (Idx (outM.view.loc (th c))) := outS (c + p.1) p.2

theorem ptRows_disj : ∀ p p' : Fin 3, p ≠ p' → Disjoint (ptRows c p) (ptRows c p') := fun p p' hp =>
  Finset.disjoint_left.mpr fun i h h' => by
    have h := (mem_ptRowS _ _).mp h; have h' := (mem_ptRowS _ _).mp h'; exact hp (Fin.ext (h.symm.trans h'))
theorem ptRows_cover : Finset.univ.biUnion (ptRows c) = Finset.univ := by
  ext i; simp only [Finset.mem_biUnion, Finset.mem_univ, true_and, iff_true]
  exact ⟨(show S3x128x512.Idx from i) 0, (mem_ptRowS _ _).mpr rfl⟩
theorem ptHalves_disj : ∀ p p' : Fin 3 × Fin 2, p ≠ p' → Disjoint (ptHalves c p) (ptHalves c p') := fun p p' hp =>
  Finset.disjoint_left.mpr fun i h h' => by
    have h := (mem_ptS _ _ _).mp h; have h' := (mem_ptS _ _ _).mp h'
    exact hp (Prod.ext (Fin.ext (h.1.symm.trans h'.1)) (Fin.ext (h.2.symm.trans h'.2)))
theorem ptHalves_cover : Finset.univ.biUnion (ptHalves c) = Finset.univ := by
  ext i; simp only [Finset.mem_biUnion, Finset.mem_univ, true_and, iff_true]
  have h1 : ((show S3x128x512.Idx from i) 1).val < 128 := ((show S3x128x512.Idx from i) 1).isLt
  exact ⟨((show S3x128x512.Idx from i) 0, ⟨((show S3x128x512.Idx from i) 1).val / 64, by omega⟩), (mem_ptS _ _ _).mpr ⟨rfl, rfl⟩⟩
theorem rsHalves_disj : ∀ p p' : Fin 4 × Fin 2, p ≠ p' → Disjoint (rsHalves c p) (rsHalves c p') := fun p p' hp =>
  Finset.disjoint_left.mpr fun i h h' => by
    have h := (mem_rsS _ _ _).mp h; have h' := (mem_rsS _ _ _).mp h'
    exact hp (Prod.ext (Fin.ext (h.1.symm.trans h'.1)) (Fin.ext (h.2.symm.trans h'.2)))
theorem rsHalves_cover : Finset.univ.biUnion (rsHalves c) = Finset.univ := by
  ext i; simp only [Finset.mem_biUnion, Finset.mem_univ, true_and, iff_true]
  have h1 : ((show S4x128x512.Idx from i) 1).val < 128 := ((show S4x128x512.Idx from i) 1).isLt
  exact ⟨((show S4x128x512.Idx from i) 0, ⟨((show S4x128x512.Idx from i) 1).val / 64, by omega⟩), (mem_rsS _ _ _).mpr ⟨rfl, rfl⟩⟩
theorem outHalves_disj : ∀ p p' : Fin 4 × Fin 2, p ≠ p' → Disjoint (outHalves c p) (outHalves c p') := fun p p' hp =>
  Finset.disjoint_left.mpr fun i h h' => by
    have h := (mem_outS _ _ _).mp h; have h' := (mem_outS _ _ _).mp h'
    have e := h.symm.trans h'
    have l1 := p.2.isLt; have l2 := p'.2.isLt
    have e1 : c + p.1 = c + p'.1 := Fin.ext (by omega)
    have e2 : p.2 = p'.2 := Fin.ext (by omega)
    exact hp (Prod.ext (add_left_cancel e1) e2)
theorem outHalves_cover : Finset.univ.biUnion (outHalves c) = Finset.univ := by
  ext i; simp only [Finset.mem_biUnion, Finset.mem_univ, true_and, iff_true]
  have h0 : ((show S2x256x512.Idx from i) 0).val < 2 := ((show S2x256x512.Idx from i) 0).isLt
  have h1 : ((show S2x256x512.Idx from i) 1).val < 256 := ((show S2x256x512.Idx from i) 1).isLt
  refine ⟨((⟨((show S2x256x512.Idx from i) 0).val * 2 + ((show S2x256x512.Idx from i) 1).val / 128, by omega⟩ : Fin 4) - c,
    ⟨((show S2x256x512.Idx from i) 1).val % 128 / 64, by omega⟩), (mem_outS _ _ _).mpr ?_⟩
  rw [add_sub_cancel]
  show ((show S2x256x512.Idx from i) 0).val * 4 + ((show S2x256x512.Idx from i) 1).val / 64
    = 2 * (((show S2x256x512.Idx from i) 0).val * 2 + ((show S2x256x512.Idx from i) 1).val / 128) + ((show S2x256x512.Idx from i) 1).val % 128 / 64
  omega

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_32 (Φ : Fin 3 × Fin 2 → sProp 𝕄) :
    bigSep Finset.univ Φ = iprop(Φ (0, 0) ∗ Φ (0, 1) ∗ Φ (1, 0) ∗ Φ (1, 1) ∗ Φ (2, 0) ∗ Φ (2, 1)) :=
  bigSep_univ_eq_bigSepL [(0, 0), (0, 1), (1, 0), (1, 1), (2, 0), (2, 1)] (by decide) (by decide) Φ
theorem bigSep_42 (Φ : Fin 4 × Fin 2 → sProp 𝕄) :
    bigSep Finset.univ Φ = iprop(Φ (0, 0) ∗ Φ (0, 1) ∗ Φ (1, 0) ∗ Φ (1, 1) ∗ Φ (2, 0) ∗ Φ (2, 1) ∗ Φ (3, 0) ∗ Φ (3, 1)) :=
  bigSep_univ_eq_bigSepL [(0, 0), (0, 1), (1, 0), (1, 1), (2, 0), (2, 1), (3, 0), (3, 1)] (by decide) (by decide) Φ

theorem ex_of {A : Type} (Φ : A → sProp 𝕄) (a : A) : Φ a ⊢ (∃ a, Φ a : sProp 𝕄) := by iintro H; iexists a; iexact H

theorem pt_split (f : Vec F S3x128x512 .bf16) :
    (ptM.view.loc (th c) ↦{fullShare} f : sProp 𝕄) ⊢ iprop((∃ f, ptRow c 0 f) ∗ (∃ f, ptRow c 1 f) ∗ (∃ f, ptRow c 2 f)) := by
  have h : (ptM.view.loc (th c) ↦{fullShare} f : sProp 𝕄) = iprop(ptRow c 0 f ∗ ptRow c 1 f ∗ ptRow c 2 f) :=
    (Ring.pointsTo_blocks (ptRows c) (ptRows_disj c) (ptRows_cover c) f).trans (bigSep_fin3 _)
  rw [h]
  iintro ⟨H0, H1, H2⟩
  isplitl [H0]; · iexists f; iexact H0
  isplitl [H1]; · iexists f; iexact H1
  iexists f; iexact H2

theorem pt_join (f : Vec F S3x128x512 .bf16) :
    iprop(ptPt c 0 0 f ∗ ptPt c 0 1 f ∗ ptPt c 1 0 f ∗ ptPt c 1 1 f ∗ ptPt c 2 0 f ∗ ptPt c 2 1 f)
      ⊢ (ptM.view.loc (th c) ↦{fullShare} f : sProp 𝕄) :=
  Entails.of_eq ((Ring.pointsTo_blocks (ptHalves c) (ptHalves_disj c) (ptHalves_cover c) f).trans (bigSep_32 _)).symm

theorem rs_split (f : Vec F S4x128x512 .bf16) :
    (rsM.view.loc (th c) ↦{fullShare} f : sProp 𝕄) ⊢ iprop((∃ f, rsPt c 0 0 f) ∗ (∃ f, rsPt c 0 1 f) ∗ (∃ f, rsPt c 1 0 f) ∗ (∃ f, rsPt c 1 1 f)
      ∗ (∃ f, rsPt c 2 0 f) ∗ (∃ f, rsPt c 2 1 f) ∗ (∃ f, rsPt c 3 0 f) ∗ (∃ f, rsPt c 3 1 f)) := by
  refine (Entails.of_eq ((Ring.pointsTo_blocks (rsHalves c) (rsHalves_disj c) (rsHalves_cover c) f).trans (bigSep_42 _))).trans ?_
  repeat' (first | refine Idealize.SL.BI.sep_mono (ex_of (fun f => (rsPt c _ _ f : sProp 𝕄)) f) ?_)
  exact ex_of (fun f => (rsPt c 3 1 f : sProp 𝕄)) f

theorem rs_join (f₀ : Vec F S4x128x512 .bf16) : iprop((∃ f, rsPt c 0 0 f) ∗ (∃ f, rsPt c 0 1 f) ∗ (∃ f, rsPt c 1 0 f) ∗ (∃ f, rsPt c 1 1 f)
      ∗ (∃ f, rsPt c 2 0 f) ∗ (∃ f, rsPt c 2 1 f) ∗ (∃ f, rsPt c 3 0 f) ∗ (∃ f, rsPt c 3 1 f))
    ⊢ (∃ f, rsM.view.loc (th c) ↦{fullShare} f : sProp 𝕄) :=
  (Entails.of_eq (bigSep_42 (fun p => iprop(∃ f, rsM.view.loc (th c) ↦[rsHalves c p]{fullShare} f))).symm).trans
    (Ring.pointsTo_blocks_join_exists (rsHalves c) (rsHalves_disj c) (rsHalves_cover c) f₀)

theorem out_split (f : Vec F S2x256x512 .bf16) :
    (outM.view.loc (th c) ↦{fullShare} f : sProp 𝕄) ⊢ iprop((∃ f, outPt c c 0 f) ∗ (∃ f, outPt c c 1 f)
      ∗ (∃ f, outPt c (peer c 0) 0 f) ∗ (∃ f, outPt c (peer c 0) 1 f)
      ∗ (∃ f, outPt c (peer c 1) 0 f) ∗ (∃ f, outPt c (peer c 1) 1 f) ∗ (∃ f, outPt c (peer c 2) 0 f) ∗ (∃ f, outPt c (peer c 2) 1 f)) := by
  have e : (bigSep Finset.univ fun p : Fin 4 × Fin 2 => (outM.view.loc (th c) ↦[outHalves c p]{fullShare} f : sProp 𝕄))
      = bigSep Finset.univ fun p : Fin 4 × Fin 2 => outPt c (c + p.1) p.2 f := rfl
  refine (Entails.of_eq ((Ring.pointsTo_blocks (outHalves c) (outHalves_disj c) (outHalves_cover c) f).trans (e.trans (bigSep_42 _)))).trans ?_
  rw [add_zero]
  repeat' (first | refine Idealize.SL.BI.sep_mono (ex_of (fun f => (outPt c _ _ f : sProp 𝕄)) f) ?_)
  exact ex_of (fun f => (outPt c (peer c 2) 1 f : sProp 𝕄)) f

theorem out_join (f : Vec F S2x256x512 .bf16) :
    iprop(outPt c c 0 f ∗ outPt c c 1 f ∗ outPt c (c + 1) 0 f ∗ outPt c (c + 1) 1 f ∗ outPt c (c + 2) 0 f ∗ outPt c (c + 2) 1 f
      ∗ outPt c (c + 3) 0 f ∗ outPt c (c + 3) 1 f)
      ⊢ (outM.view.loc (th c) ↦{fullShare} f : sProp 𝕄) := by
  have e : (bigSep Finset.univ fun p : Fin 4 × Fin 2 => (outM.view.loc (th c) ↦[outHalves c p]{fullShare} f : sProp 𝕄))
      = bigSep Finset.univ fun p : Fin 4 × Fin 2 => outPt c (c + p.1) p.2 f := rfl
  refine Idealize.SL.BI.Entails.trans ?_ (Entails.of_eq ((Ring.pointsTo_blocks (outHalves c) (outHalves_disj c) (outHalves_cover c) f).trans (e.trans (bigSep_42 _))).symm)
  rw [add_zero]
  exact Idealize.SL.BI.Entails.refl _

end Cert.KernelIdeal.Hand

end
-- ==== Proof.Chain.lean ====
/- The products the body computes, as printed, are the products of the content functions. -/
module

public import proofs.«01_k».proof.Proof.Geom

@[expose] public section

noncomputable section

namespace Cert.KernelIdeal.Hand

open Idealize.ShloMosaic
open Idealize.ShloMosaic.TcCoe
open Cert.KernelIdeal.Gen

variable {F : FTy → Type} [FloatOps F]

/-- The rows loaded from an offset. -/
abbrev xL (x : Vec F S2x256x512 .bf16) (off : Fin 3 → ℕ) (inb : ∀ a, off a + S1x128x512.size a ≤ S2x256x512.size a) : Vec F S1x128x512 .bf16 :=
  View.readAt (Elt F) xM.view (Rect.unit (s := S2x256x512) off S1x128x512.size inb).toLoadRect x
/-- One head's keys loaded from an offset. -/
abbrev kL (x : Vec F S2x256x256 .bf16) (off : Fin 3 → ℕ) (inb : ∀ a, off a + S1x256x64.size a ≤ S2x256x256.size a) : Vec F S1x256x64 .bf16 :=
  View.readAt (Elt F) kM.view (Rect.unit (s := S2x256x256) off S1x256x64.size inb).toLoadRect x
/-- One head's values loaded from an offset. -/
abbrev vL (x : Vec F S2x256x256 .bf16) (off : Fin 3 → ℕ) (inb : ∀ a, off a + S1x256x64.size a ≤ S2x256x256.size a) : Vec F S1x256x64 .bf16 :=
  View.readAt (Elt F) vM.view (Rect.unit (s := S2x256x256) off S1x256x64.size inb).toLoadRect x
/-- The query weights, loaded whole. -/
abbrev wqL (x : Vec F S512x256 .bf16) : Vec F S512x256 .bf16 :=
  View.readAt (Elt F) wqM.view (Rect.unit (s := S512x256) ![0, 0] S512x256.size inb_S512x256_S512x256_0_0).toLoadRect x
/-- The output weights, loaded whole. -/
abbrev woL (x : Vec F S256x512 .bf16) : Vec F S256x512 .bf16 :=
  View.readAt (Elt F) woM.view (Rect.unit (s := S256x512) ![0, 0] S256x512.size inb_S256x512_S256x512_0_0).toLoadRect x

theorem zero2 : (![0, 0] : Fin 2 → ℕ) = fun _ => 0 := by decide
theorem wqL_eq (x : Vec F S512x256 .bf16) : wqL x = x := by
  unfold wqL
  funext i
  refine congrArg x (funext fun a => Fin.ext ?_)
  exact (unit_emb_val (s := S512x256) _ _ inb_S512x256_S512x256_0_0 i a).trans ((congrArg (· + (i a).val) (congrFun zero2 a)).trans (Nat.zero_add _))
theorem woL_eq (x : Vec F S256x512 .bf16) : woL x = x := by
  unfold woL
  funext i
  refine congrArg x (funext fun a => Fin.ext ?_)
  exact (unit_emb_val (s := S256x512) _ _ inb_S256x512_S256x512_0_0 i a).trans ((congrArg (· + (i a).val) (congrFun zero2 a)).trans (Nat.zero_add _))

/-- A device's number, as the body reads it. -/
abbrev myW (c : Dev nD) : BitVec 32 := Scalar.remsi (Scalar.divsi (Dev.word c) 1#32) 4#32
/-- The quarter `w` after it. -/
abbrev nextW (c : Dev nD) (w : BitVec 32) : BitVec 32 := Scalar.remsi (Scalar.addi (myW c) w) 4#32
/-- The first row of a quarter within its batch entry, as the body computes it. -/
def rowW (v34 : BitVec 32) : BitVec 32 :=
  let v53 : BitVec 32 := Scalar.select (Scalar.cmpi .eq 2#32 0#32) 1#32 2#32
  let v54 : BitVec 32 := Scalar.remsi v34 v53
  let v59 : BitVec 1 := Scalar.andi (Scalar.xori (Scalar.cmpi .slt v54 0#32) (Scalar.cmpi .slt v53 0#32)) (Scalar.cmpi .ne v54 0#32)
  Scalar.muli (Scalar.select v59 (Scalar.addi v54 v53) v54) 128#32

theorem chain_congr (I : Inp F) (q : Fin 4) (W : BitVec 32) (hW : W = r0 q) {ox inbx} (hx : ox = xOff q)
    {o0 o1 o2 o3 i0 i1 i2 i3} (h0 : o0 = kOff q 0) (h1 : o1 = kOff q 1) (h2 : o2 = kOff q 2) (h3 : o3 = kOff q 3) :
    partOf (maskOf W) (k0_pay4 (k0_pay1 (wqL I.wq)) (xL I.x ox inbx)) ![kL I.k o0 i0, kL I.k o1 i1, kL I.k o2 i2, kL I.k o3 i3]
      ![vL I.v o0 i0, vL I.v o1 i1, vL I.v o2 i2, vL I.v o3 i3] (woL I.wo) = part I q := by
  subst hW hx h0 h1 h2 h3
  rw [wqL_eq, woL_eq]
  rfl

/-! ## Each product, from its loads -/

section Printed

/-- The row numbers the mask compares with. -/
abbrev v32 : IVec S128x256 32 := iota .tc S128x256 32 [0] iota_S128x256_d0_w32
abbrev sgn1 : BitVec 32 := Scalar.extui (Scalar.cmpi .sgt 64#32 0#32)
abbrev sgn0 : BitVec 32 := Scalar.extui (Scalar.cmpi .slt 64#32 0#32)

theorem mask_1 (q : BitVec 32) :
    k0_pay8 k0_pay3 (k0_pay5 v32 q) 64#32 (k0_pay6 v32 q) (k0_pay7 v32 q) sgn1 sgn0 = maskOf (rowW q) := rfl
theorem mask_2 (q : BitVec 32) : k0_pay23 k0_pay3 (k0_pay20 v32 q) (k0_pay21 v32 q) (k0_pay22 v32 q) = maskOf (rowW q) := rfl
theorem mask_3 (w : BitVec 32) :
    k0_pay36 k0_pay3 (k0_pay34 w v32) 64#32 k0_pay35 = maskOf (rowW (Scalar.remsi (Scalar.addi w 3#32) 4#32)) := rfl
abbrev w571 : BitVec 32 := Scalar.select (Scalar.cmpi .eq 2#32 0#32) 1#32 2#32
theorem mask_own (w : BitVec 32) :
    k0_pay44 k0_pay3 v32 w571 (Scalar.remsi w w571) (Scalar.cmpi .ne (Scalar.remsi w w571) 0#32) (Scalar.cmpi .slt (Scalar.remsi w w571) 0#32)
      (Scalar.cmpi .slt w571 0#32) = maskOf (rowW w) := rfl

variable (M : IVec S128x256 1) (p : FVec F S128x256 .f32) (k v k0 k1 k2 k3 v0 v1 v2 v3 : Vec F S1x256x64 .bf16)
  (wq : Vec F S512x256 .bf16) (wo : Vec F S256x512 .bf16) (x : Vec F S1x128x512 .bf16)

abbrev hd0 : FVec F S128x64 .f32 := k0_pay39 M (extractStridedSlice S128x64 ![0, 0] p slices_S128x256_o0_0_S128x64) k v
abbrev hd1 : FVec F S128x64 .f32 := k0_pay39 M (extractStridedSlice S128x64 ![0, 64] p slices_S128x256_o0_64_S128x64) k v
abbrev hd2 : FVec F S128x64 .f32 := k0_pay39 M (extractStridedSlice S128x64 ![0, 128] p slices_S128x256_o0_128_S128x64) k v
abbrev hd3 : FVec F S128x64 .f32 := k0_pay39 M (extractStridedSlice S128x64 ![0, 192] p slices_S128x256_o0_192_S128x64) k v

/-- The four heads joined and multiplied by the output weights. -/
def fin4 (a b c d : FVec F S128x64 .f32) (w : FVec F S256x512 .bf16) : FVec F S128x512 .bf16 :=
  truncf .bf16 (matmul dot_S128x256_S256x512_S128x512_1_0_0_1_n_n none
    (truncf .bf16 (concatenate S128x256 1 [⟨S128x64, a⟩, ⟨S128x64, b⟩, ⟨S128x64, c⟩, ⟨S128x64, d⟩]
      concatenates_S128x64_S128x64_S128x64_S128x64_S128x256_d1) bitsLt_bf16_f32)
    w (constant S128x512 .f32 0x00000000#32)) bitsLt_bf16_f32

theorem partOf_eq : partOf M p ![k0, k1, k2, k3] ![v0, v1, v2, v3] wo
    = fin4 (hd0 M p k0 v0) (hd1 M p k1 v1) (hd2 M p k2 v2) (hd3 M p k3 v3) (k0_pay2 wo) := rfl

variable (a31 a69 a71 a78 : IVec S128x256 32) (b c80 c82 : BitVec 32) (e : IVec S128x256 1)
theorem head_9 : k0_pay9 a31 p a69 b a71 a78 c80 c82 k v = hd0 (k0_pay8 a31 a69 b a71 a78 c80 c82) p k v := rfl
theorem head_12 : k0_pay12 M (k0_pay10 v) (k0_pay11 p k) = hd1 M p k v := rfl
theorem head_13 : k0_pay13 p M k v = hd2 M p k v := rfl
theorem fin_17 (a b c : FVec F S128x64 .f32) (w : FVec F S256x512 .bf16) :
    k0_pay17 w M a b c (k0_pay14 v) (k0_pay15 p k) k0_pay16
      = shapeCast S1x128x512 (fin4 a b c (hd3 M p k v) w) shapeCasts_S128x512_S1x128x512 := rfl
theorem head_24 : k0_pay24 a31 p a69 e a71 k v = hd0 (k0_pay23 a31 a69 e a71) p k v := rfl
theorem head_27 : k0_pay27 (k0_pay25 v) (k0_pay26 a31 p a69 e a71 k) = hd1 (k0_pay23 a31 a69 e a71) p k v := rfl
theorem head_28 : k0_pay28 p M k v = hd2 M p k v := rfl
theorem fin_32 (a b c : FVec F S128x64 .f32) (w : FVec F S256x512 .bf16) :
    k0_pay32 w a b c (k0_pay29 v) (k0_pay30 p M k) (k0_pay31 p M k)
      = shapeCast S1x128x512 (fin4 a b c (hd3 M p k v) w) shapeCasts_S128x512_S1x128x512 := rfl
theorem head_37 : k0_pay37 a31 p a69 b a71 k v = hd0 (k0_pay36 a31 a69 b a71) p k v := rfl
theorem head_39 : k0_pay39 M (k0_pay38 p) k v = hd1 M p k v := rfl
theorem head_40 : k0_pay40 p M k v = hd2 M p k v := rfl
theorem fin_42 (a b c : FVec F S128x64 .f32) (w : FVec F S256x512 .bf16) :
    k0_pay42 w M a b c (k0_pay41 p) k v
      = shapeCast S1x128x512 (fin4 a b c (hd3 M p k v) w) shapeCasts_S128x512_S1x128x512 := rfl
theorem head_48 (wq : FVec F S512x256 .bf16) : k0_pay48 M (k0_pay45 wq x) (k0_pay46 k) (k0_pay47 v) (constant S128x256 .f32 0x00000000#32)
    = hd0 M (k0_pay43 wq x) k v := rfl
theorem head_49 : k0_pay49 p M k v = hd1 M p k v := rfl
theorem fin_52 (a b : FVec F S128x64 .f32) (w : FVec F S256x512 .bf16) :
    k0_pay52 w p M a b (k0_pay50 v) (k0_pay51 p k) (Scalar.ofBits .f32 0x3E000000#32) k1 v1
      = fin4 a b (hd2 M p k v) (hd3 M p k1 v1) w := rfl
theorem q_18 (wq : FVec F S512x256 .bf16) : k0_pay18 wq x = k0_pay4 wq x := rfl
theorem q_33 (wq : FVec F S512x256 .bf16) : k0_pay33 wq x = k0_pay4 wq x := rfl
theorem q_43 (wq : FVec F S512x256 .bf16) : k0_pay43 wq x = k0_pay4 wq x := rfl

variable (W : BitVec 32)

theorem printed_1 :
    k0_pay17 (k0_pay2 wo) (k0_pay8 k0_pay3 (k0_pay5 v32 W) 64#32 (k0_pay6 v32 W) (k0_pay7 v32 W) sgn1 sgn0)
      (k0_pay9 k0_pay3 (k0_pay4 (k0_pay1 wq) x) (k0_pay5 v32 W) 64#32 (k0_pay6 v32 W) (k0_pay7 v32 W) sgn1 sgn0 k0 v0)
      (k0_pay12 (k0_pay8 k0_pay3 (k0_pay5 v32 W) 64#32 (k0_pay6 v32 W) (k0_pay7 v32 W) sgn1 sgn0) (k0_pay10 v1) (k0_pay11 (k0_pay4 (k0_pay1 wq) x) k1))
      (k0_pay13 (k0_pay4 (k0_pay1 wq) x) (k0_pay8 k0_pay3 (k0_pay5 v32 W) 64#32 (k0_pay6 v32 W) (k0_pay7 v32 W) sgn1 sgn0) k2 v2)
      (k0_pay14 v3) (k0_pay15 (k0_pay4 (k0_pay1 wq) x) k3) k0_pay16
      = shapeCast S1x128x512 (partOf (maskOf (rowW W)) (k0_pay4 (k0_pay1 wq) x) ![k0, k1, k2, k3] ![v0, v1, v2, v3] wo)
          shapeCasts_S128x512_S1x128x512 := by
  rw [head_9, mask_1, head_12, head_13, fin_17, partOf_eq]

theorem printed_2 :
    k0_pay32 (k0_pay2 wo)
      (k0_pay24 k0_pay3 (k0_pay18 (k0_pay1 wq) x) (k0_pay20 v32 W) (k0_pay21 v32 W) (k0_pay22 v32 W) k0 v0)
      (k0_pay27 (k0_pay25 v1) (k0_pay26 k0_pay3 (k0_pay18 (k0_pay1 wq) x) (k0_pay20 v32 W) (k0_pay21 v32 W) (k0_pay22 v32 W) k1))
      (k0_pay28 (k0_pay18 (k0_pay1 wq) x) (k0_pay23 k0_pay3 (k0_pay20 v32 W) (k0_pay21 v32 W) (k0_pay22 v32 W)) k2 v2)
      (k0_pay29 v3)
      (k0_pay30 (k0_pay18 (k0_pay1 wq) x) (k0_pay23 k0_pay3 (k0_pay20 v32 W) (k0_pay21 v32 W) (k0_pay22 v32 W)) k3)
      (k0_pay31 (k0_pay18 (k0_pay1 wq) x) (k0_pay23 k0_pay3 (k0_pay20 v32 W) (k0_pay21 v32 W) (k0_pay22 v32 W)) k3)
      = shapeCast S1x128x512 (partOf (maskOf (rowW W)) (k0_pay4 (k0_pay1 wq) x) ![k0, k1, k2, k3] ![v0, v1, v2, v3] wo)
          shapeCasts_S128x512_S1x128x512 := by
  rw [head_24, head_27, mask_2, head_28, fin_32, q_18, partOf_eq]

theorem printed_3 :
    k0_pay42 (k0_pay2 wo) (k0_pay36 k0_pay3 (k0_pay34 W v32) 64#32 k0_pay35)
      (k0_pay37 k0_pay3 (k0_pay33 (k0_pay1 wq) x) (k0_pay34 W v32) 64#32 k0_pay35 k0 v0)
      (k0_pay39 (k0_pay36 k0_pay3 (k0_pay34 W v32) 64#32 k0_pay35) (k0_pay38 (k0_pay33 (k0_pay1 wq) x)) k1 v1)
      (k0_pay40 (k0_pay33 (k0_pay1 wq) x) (k0_pay36 k0_pay3 (k0_pay34 W v32) 64#32 k0_pay35) k2 v2)
      (k0_pay41 (k0_pay33 (k0_pay1 wq) x)) k3 v3
      = shapeCast S1x128x512 (partOf (maskOf (rowW (Scalar.remsi (Scalar.addi W 3#32) 4#32))) (k0_pay4 (k0_pay1 wq) x) ![k0, k1, k2, k3] ![v0, v1, v2, v3] wo)
          shapeCasts_S128x512_S1x128x512 := by
  rw [head_37, head_39, mask_3, head_40, fin_42, q_33, partOf_eq]

theorem printed_own (hM : M = maskOf (rowW W)) :
    k0_pay52 (k0_pay2 wo) (k0_pay43 (k0_pay1 wq) x) M
      (k0_pay48 M (k0_pay45 (k0_pay1 wq) x) (k0_pay46 k0) (k0_pay47 v0) (constant S128x256 .f32 0x00000000#32))
      (k0_pay49 (k0_pay43 (k0_pay1 wq) x) M k1 v1)
      (k0_pay50 v2) (k0_pay51 (k0_pay43 (k0_pay1 wq) x) k2) (Scalar.ofBits .f32 0x3E000000#32) k3 v3
      = partOf (maskOf (rowW W)) (k0_pay4 (k0_pay1 wq) x) ![k0, k1, k2, k3] ![v0, v1, v2, v3] wo := by
  subst hM
  rw [head_48, head_49, fin_52, q_43, partOf_eq]

/-- The mask of the device's own quarter, as computed once its comparisons of constants are settled. -/
abbrev maskOwn (c : Dev nD) : IVec S128x256 1 :=
  k0_pay44 k0_pay3 v32 2#32 (Scalar.remsi (myW c) w571) (Scalar.cmpi .ne (Scalar.remsi (myW c) w571) 0#32) 0#1 0#1
theorem w571_eq : w571 = 2#32 := by decide
theorem w574_eq (c : Dev nD) : Scalar.cmpi .slt (Scalar.remsi (myW c) w571) 0#32 = 0#1 := by revert c; decide
theorem w575_eq : Scalar.cmpi .slt w571 0#32 = 0#1 := by decide
theorem maskOwn_eq (c : Dev nD) : maskOwn c = maskOf (rowW (myW c)) := by
  rw [← mask_own, w574_eq, w575_eq]
  exact congrArg (fun z => k0_pay44 k0_pay3 v32 z (Scalar.remsi (myW c) w571) (Scalar.cmpi .ne (Scalar.remsi (myW c) w571) 0#32) 0#1 0#1)
    w571_eq.symm

end Printed

variable (I : Inp F) (c : Fin 4)

theorem row_1 : rowW (nextW c 1#32) = r0 (peer c 0) := by revert c; decide
theorem xo_1 : k0_off1 c 1#32 = xOff (peer c 0) := by revert c; decide
theorem ko0_1 : k0_off2 c 1#32 = kOff (peer c 0) 0 := by revert c; decide
theorem ko1_1 : k0_off3 c 1#32 = kOff (peer c 0) 1 := by revert c; decide
theorem ko2_1 : k0_off4 c 1#32 = kOff (peer c 0) 2 := by revert c; decide
theorem ko3_1 : k0_off5 c 1#32 = kOff (peer c 0) 3 := by revert c; decide
theorem chain_1 :
    shapeCast S1x128x512 (partOf (maskOf (rowW (nextW c 1#32))) (k0_pay4 (k0_pay1 (wqL I.wq)) (xL I.x (k0_off1 c 1#32) (k0_off1_inb c 0)))
      ![kL I.k (k0_off2 c 1#32) (k0_off2_inb c 0), kL I.k (k0_off3 c 1#32) (k0_off3_inb c 0), kL I.k (k0_off4 c 1#32) (k0_off4_inb c 0), kL I.k (k0_off5 c 1#32) (k0_off5_inb c 0)]
      ![vL I.v (k0_off2 c 1#32) (k0_off2_inb c 0), vL I.v (k0_off3 c 1#32) (k0_off3_inb c 0), vL I.v (k0_off4 c 1#32) (k0_off4_inb c 0), vL I.v (k0_off5 c 1#32) (k0_off5_inb c 0)]
      (woL I.wo)) shapeCasts_S128x512_S1x128x512
      = shapeCast S1x128x512 (part I (peer c 0)) shapeCasts_S128x512_S1x128x512 :=
  congrArg (fun z => shapeCast S1x128x512 z shapeCasts_S128x512_S1x128x512)
    (chain_congr I (peer c 0) _ (row_1 c) (xo_1 c) (ko0_1 c) (ko1_1 c) (ko2_1 c) (ko3_1 c))

theorem row_2 : rowW (nextW c 2#32) = r0 (peer c 1) := by revert c; decide
theorem xo_2 : k0_off1 c 2#32 = xOff (peer c 1) := by revert c; decide
theorem ko0_2 : k0_off2 c 2#32 = kOff (peer c 1) 0 := by revert c; decide
theorem ko1_2 : k0_off3 c 2#32 = kOff (peer c 1) 1 := by revert c; decide
theorem ko2_2 : k0_off4 c 2#32 = kOff (peer c 1) 2 := by revert c; decide
theorem ko3_2 : k0_off5 c 2#32 = kOff (peer c 1) 3 := by revert c; decide
theorem chain_2 :
    shapeCast S1x128x512 (partOf (maskOf (rowW (nextW c 2#32))) (k0_pay4 (k0_pay1 (wqL I.wq)) (xL I.x (k0_off1 c 2#32) (k0_off1_inb c 1)))
      ![kL I.k (k0_off2 c 2#32) (k0_off2_inb c 1), kL I.k (k0_off3 c 2#32) (k0_off3_inb c 1), kL I.k (k0_off4 c 2#32) (k0_off4_inb c 1), kL I.k (k0_off5 c 2#32) (k0_off5_inb c 1)]
      ![vL I.v (k0_off2 c 2#32) (k0_off2_inb c 1), vL I.v (k0_off3 c 2#32) (k0_off3_inb c 1), vL I.v (k0_off4 c 2#32) (k0_off4_inb c 1), vL I.v (k0_off5 c 2#32) (k0_off5_inb c 1)]
      (woL I.wo)) shapeCasts_S128x512_S1x128x512
      = shapeCast S1x128x512 (part I (peer c 1)) shapeCasts_S128x512_S1x128x512 :=
  congrArg (fun z => shapeCast S1x128x512 z shapeCasts_S128x512_S1x128x512)
    (chain_congr I (peer c 1) _ (row_2 c) (xo_2 c) (ko0_2 c) (ko1_2 c) (ko2_2 c) (ko3_2 c))

theorem row_3 : rowW (nextW c 3#32) = r0 (peer c 2) := by revert c; decide
theorem xo_3 : k0_off1 c 3#32 = xOff (peer c 2) := by revert c; decide
theorem ko0_3 : k0_off2 c 3#32 = kOff (peer c 2) 0 := by revert c; decide
theorem ko1_3 : k0_off3 c 3#32 = kOff (peer c 2) 1 := by revert c; decide
theorem ko2_3 : k0_off4 c 3#32 = kOff (peer c 2) 2 := by revert c; decide
theorem ko3_3 : k0_off5 c 3#32 = kOff (peer c 2) 3 := by revert c; decide
theorem chain_3 :
    shapeCast S1x128x512 (partOf (maskOf (rowW (nextW c 3#32))) (k0_pay4 (k0_pay1 (wqL I.wq)) (xL I.x (k0_off1 c 3#32) (k0_off1_inb c 2)))
      ![kL I.k (k0_off2 c 3#32) (k0_off2_inb c 2), kL I.k (k0_off3 c 3#32) (k0_off3_inb c 2), kL I.k (k0_off4 c 3#32) (k0_off4_inb c 2), kL I.k (k0_off5 c 3#32) (k0_off5_inb c 2)]
      ![vL I.v (k0_off2 c 3#32) (k0_off2_inb c 2), vL I.v (k0_off3 c 3#32) (k0_off3_inb c 2), vL I.v (k0_off4 c 3#32) (k0_off4_inb c 2), vL I.v (k0_off5 c 3#32) (k0_off5_inb c 2)]
      (woL I.wo)) shapeCasts_S128x512_S1x128x512
      = shapeCast S1x128x512 (part I (peer c 2)) shapeCasts_S128x512_S1x128x512 :=
  congrArg (fun z => shapeCast S1x128x512 z shapeCasts_S128x512_S1x128x512)
    (chain_congr I (peer c 2) _ (row_3 c) (xo_3 c) (ko0_3 c) (ko1_3 c) (ko2_3 c) (ko3_3 c))

theorem row_own : rowW (myW c) = r0 c := by revert c; decide
theorem xo_own : k0_off6 c = xOff c := by revert c; decide
theorem ko0_own : k0_off7 c = kOff c 0 := by revert c; decide
theorem ko1_own : k0_off8 c = kOff c 1 := by revert c; decide
theorem ko2_own : k0_off9 c = kOff c 2 := by revert c; decide
theorem ko3_own : k0_off10 c = kOff c 3 := by revert c; decide
theorem chain_own :
    partOf (maskOf (rowW (myW c))) (k0_pay4 (k0_pay1 (wqL I.wq)) (xL I.x (k0_off6 c) (k0_off6_inb c)))
      ![kL I.k (k0_off7 c) (k0_off7_inb c), kL I.k (k0_off8 c) (k0_off8_inb c), kL I.k (k0_off9 c) (k0_off9_inb c), kL I.k (k0_off10 c) (k0_off10_inb c)]
      ![vL I.v (k0_off7 c) (k0_off7_inb c), vL I.v (k0_off8 c) (k0_off8_inb c), vL I.v (k0_off9 c) (k0_off9_inb c), vL I.v (k0_off10 c) (k0_off10_inb c)]
      (woL I.wo) = part I c :=
  chain_congr I c _ (row_own c) (xo_own c) (ko0_own c) (ko1_own c) (ko2_own c) (ko3_own c)

end Cert.KernelIdeal.Hand

end
-- ==== Proof.Body.lean ====
/- The body of one device, run from start to end. -/
module

public import proofs.«01_k».proof.Proof.Store
public import proofs.«01_k».proof.Proof.Chain

@[expose] public section

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (I : Fin 4 → Inp F) (K : GSem nD τ sig → ℕ) (c : Fin 4)

/-! ## What the body starts from and ends with -/

/-- Leave to signal the other devices' barriers. -/
def barToks : sProp 𝕄 :=
  iprop(dutyTok ER (bc (peer c 0)) 0 (slot 0) ∗ dutyTok ER (bc (peer c 1)) 0 (slot 1) ∗ dutyTok ER (bc (peer c 2)) 0 (slot 2))
/-- Leave to make the transfers. -/
def sendPacks : sProp 𝕄 :=
  iprop(rsPack c 0 0 ∗ rsPack c 1 0 ∗ rsPack c 0 1 ∗ rsPack c 1 1 ∗ rsPack c 0 2 ∗ rsPack c 1 2
    ∗ agPack c 0 0 ∗ agPack c 1 0 ∗ agPack c 0 1 ∗ agPack c 1 1 ∗ agPack c 0 2 ∗ agPack c 1 2)
/-- Leave to wait for the transfers the device receives. -/
def recvPacks : sProp 𝕄 :=
  iprop(fly c (.rsR 0 1) ∗ fly c (.rsR 1 1) ∗ fly c (.rsR 0 2) ∗ fly c (.rsR 1 2) ∗ fly c (.rsR 0 3) ∗ fly c (.rsR 1 3)
    ∗ fly c (.agR 0 1) ∗ fly c (.agR 1 1) ∗ fly c (.agR 0 2) ∗ fly c (.agR 1 2) ∗ fly c (.agR 0 3) ∗ fly c (.agR 1 3))
/-- The semaphores nothing is received on. -/
def idle : sProp 𝕄 :=
  iprop(atPos ER (kc c (.rsR 0 0)) 0 ∅ 0 ∗ atPos ER (kc c (.rsR 1 0)) 0 ∅ 0 ∗ atPos ER (kc c (.agR 0 0)) 0 ∅ 0 ∗ atPos ER (kc c (.agR 1 0)) 0 ∅ 0)
/-- What the other devices are told of the semaphores they credit. -/
def told : sProp 𝕄 :=
  iprop(reached ER (kc c (.rsR 0 1)) 0 ∗ reached ER (kc c (.rsR 1 1)) 0 ∗ reached ER (kc c (.rsR 0 2)) 0
    ∗ reached ER (kc c (.rsR 1 2)) 0 ∗ reached ER (kc c (.rsR 0 3)) 0 ∗ reached ER (kc c (.rsR 1 3)) 0
    ∗ reached ER (kc c (.agR 0 1)) 0 ∗ reached ER (kc c (.agR 1 1)) 0 ∗ reached ER (kc c (.agR 0 2)) 0
    ∗ reached ER (kc c (.agR 1 2)) 0 ∗ reached ER (kc c (.agR 0 3)) 0 ∗ reached ER (kc c (.agR 1 3)) 0)
instance told_persistent : BI.Persistent (told (F := F) c) := by unfold told; infer_instance

/-- The rows, weights, keys and values, as staged. -/
def ins : sProp 𝕄 :=
  iprop((xM.view.loc (th c) ↦{fullShare} (I c).x) ∗ (wqM.view.loc (th c) ↦{fullShare} (I c).wq) ∗ (kM.view.loc (th c) ↦{fullShare} (I c).k)
    ∗ (vM.view.loc (th c) ↦{fullShare} (I c).v) ∗ (woM.view.loc (th c) ↦{fullShare} (I c).wo))

theorem barPay_succ (j : Fin 3) : barPay (F := F) c j.succ
    = iprop(grant (F := F) (peer c j) c 0 (slot j) ∗ grant (F := F) (peer c j) c 1 (slot j)) := rfl

theorem wp_skip {α β : Type} (a : α) (k : α → Prog (TpuEff nD τ sig (Elt F) Λ₀ .tc) β) (Q : β → sProp 𝕄) :
    wp frame (wpE (defs₀ (F := F)) 𝒱₀ (th c) none) Set.univ (k a) Q
      ⊢ wp frame (wpE (defs₀ (F := F)) 𝒱₀ (th c) none) Set.univ ((Prog.ret a).bind k) Q := BI.Entails.refl _

theorem wp_done {α : Type} (a : α) (Q : α → sProp 𝕄) :
    Q a ⊢ wp frame (wpE (defs₀ (F := F)) 𝒱₀ (th c) none) Set.univ (Prog.ret a) Q := by
  rw [wp_ret]; iintro H; imodintro; iexact H

theorem dev1_peer (h) : (⟨k0_dev1 c, h⟩ : Dev nD) = peer c 0 := by revert c; decide
theorem dev2_peer (h) : (⟨k0_dev2 c, h⟩ : Dev nD) = peer c 1 := by revert c; decide
theorem dev3_peer (h) : (⟨k0_dev3 c, h⟩ : Dev nD) = peer c 2 := by revert c; decide
theorem dev4_peer (h) : (⟨k0_dev4 c, h⟩ : Dev nD) = peer c 0 := by revert c; decide
theorem dev5_peer (h) : (⟨k0_dev5 c, h⟩ : Dev nD) = peer c 0 := by revert c; decide
theorem dev6_peer (h) : (⟨k0_dev6 c, h⟩ : Dev nD) = peer c 1 := by revert c; decide
theorem dev7_peer (h) : (⟨k0_dev7 c, h⟩ : Dev nD) = peer c 1 := by revert c; decide
theorem dev8_peer (h) : (⟨k0_dev8 c, h⟩ : Dev nD) = peer c 2 := by revert c; decide
theorem dev9_peer (h) : (⟨k0_dev9 c, h⟩ : Dev nD) = peer c 2 := by revert c; decide
theorem dev10_peer (h) : (⟨k0_dev10 c, h⟩ : Dev nD) = peer c 0 := by revert c; decide
theorem dev11_peer (h) : (⟨k0_dev11 c, h⟩ : Dev nD) = peer c 1 := by revert c; decide
theorem dev12_peer (h) : (⟨k0_dev12 c, h⟩ : Dev nD) = peer c 2 := by revert c; decide
theorem dev13_peer (h) : (⟨k0_dev13 c, h⟩ : Dev nD) = peer c 0 := by revert c; decide
theorem dev14_peer (h) : (⟨k0_dev14 c, h⟩ : Dev nD) = peer c 1 := by revert c; decide
theorem dev15_peer (h) : (⟨k0_dev15 c, h⟩ : Dev nD) = peer c 2 := by revert c; decide
theorem toInt_1 : (1#32 : BitVec 32).toInt = 1 := by decide
theorem toInt_3 : (3#32 : BitVec 32).toInt = 3 := by decide
theorem off11_0 : k0_off11 c 0#32 = outOff c 0 := by revert c; decide
theorem off11_1 : k0_off11 c 64#32 = outOff c 1 := by revert c; decide
theorem outPc_0 (h h') : (outM.slice (Rect.unit (s := S2x256x512) (k0_off12 c 0#32) S1x64x512.size h) h').squeeze S64x512 squeezes_S1x64x512_S64x512
    = outPc c 0 := by
  have e : k0_off12 c 0#32 = outOff c 0 := by revert c; decide
  revert h h'; rw [e]; intro h h'; rfl
theorem outPc_1 (h h') : (outM.slice (Rect.unit (s := S2x256x512) (k0_off12 c 64#32) S1x64x512.size h) h').squeeze S64x512 squeezes_S1x64x512_S64x512
    = outPc c 1 := by
  have e : k0_off12 c 64#32 = outOff c 1 := by revert c; decide
  revert h h'; rw [e]; intro h h'; rfl

/-- The transfer semaphores, all spent. -/
def sems0 : sProp 𝕄 :=
  iprop(semVal (kc c (.rsS 0 0)) 0 ∗ semVal (kc c (.rsS 0 1)) 0 ∗ semVal (kc c (.rsS 0 2)) 0 ∗ semVal (kc c (.rsS 1 0)) 0 ∗ semVal (kc c (.rsS 1 1)) 0 ∗ semVal (kc c (.rsS 1 2)) 0 ∗ semVal (kc c (.rsR 0 0)) 0 ∗ semVal (kc c (.rsR 0 1)) 0 ∗ semVal (kc c (.rsR 0 2)) 0 ∗ semVal (kc c (.rsR 0 3)) 0 ∗ semVal (kc c (.rsR 1 0)) 0 ∗ semVal (kc c (.rsR 1 1)) 0 ∗ semVal (kc c (.rsR 1 2)) 0 ∗ semVal (kc c (.rsR 1 3)) 0 ∗ semVal (kc c (.agS 0 0)) 0 ∗ semVal (kc c (.agS 0 1)) 0 ∗ semVal (kc c (.agS 0 2)) 0 ∗ semVal (kc c (.agS 1 0)) 0 ∗ semVal (kc c (.agS 1 1)) 0 ∗ semVal (kc c (.agS 1 2)) 0 ∗ semVal (kc c (.agR 0 0)) 0 ∗ semVal (kc c (.agR 0 1)) 0 ∗ semVal (kc c (.agR 0 2)) 0 ∗ semVal (kc c (.agR 0 3)) 0 ∗ semVal (kc c (.agR 1 0)) 0 ∗ semVal (kc c (.agR 1 1)) 0 ∗ semVal (kc c (.agR 1 2)) 0 ∗ semVal (kc c (.agR 1 3)) 0)

/-- What the body ends with. -/
def bodyPost : sProp 𝕄 :=
  iprop(ins I c ∗ (outM.view.loc (th c) ↦{fullShare} OUT I) ∗ (∃ f : Vec F S3x128x512 .bf16, ptM.view.loc (th c) ↦{fullShare} f)
    ∗ (∃ f : Vec F S4x128x512 .bf16, rsM.view.loc (th c) ↦{fullShare} f) ∗ ow c [] ∗ semVal (bc c) 0 ∗ sems0 c)

set_option maxRecDepth 65536 in
set_option maxHeartbeats 4000000 in
theorem body_run (Q : PUnit → sProp 𝕄) (o : Vec F S2x256x512 .bf16) (p : Vec F S3x128x512 .bf16) (r : Vec F S4x128x512 .bf16) :
    iprop(recs I K ∗ ow c (owed4 c) ∗ cred (tallyAt (bc c) () 3) ∗ atPos ER (bc c) 0 ∅ 0 ∗ barToks c ∗ sendPacks c ∗ recvPacks c ∗ idle c
        ∗ told c ∗ ins I c ∗ (outM.view.loc (th c) ↦{fullShare} o) ∗ (ptM.view.loc (th c) ↦{fullShare} p) ∗ (rsM.view.loc (th c) ↦{fullShare} r))
      ⊢ iprop((bodyPost I c -∗ Q ⟨⟩) -∗ wp frame (wpE (defs₀ (F := F)) 𝒱₀ (th c) none) Set.univ
        (cc0_body xM (Memref.isWhole_whole _) wqM (Memref.isWhole_whole _) kM (Memref.isWhole_whole _) vM (Memref.isWhole_whole _)
          woM (Memref.isWhole_whole _) outM (Memref.isWhole_whole _) ptM (Memref.isWhole_whole _) rsM (Memref.isWhole_whole _)
          redM (Memref.isWhole_whole _) cc0_scratch3 cc0_scratch4 cc0_scratch5 cc0_scratch6) Q) := by
  rw [cc0_body_eq_skeleton]
  unfold cc0_body_skel ins barToks sendPacks recvPacks idle told
  iintro ⟨#HR, HO, Hbc, Hba, ⟨Hb0, Hb1, Hb2⟩, ⟨S00, S10, S01, S11, S02, S12, A00, A10, A01, A11, A02, A12⟩, ⟨R01, R11, R02, R12, R03, R13, G01, G11, G02, G12, G03, G13⟩, ⟨Hi0, Hi1, Hi2, Hi3⟩, ⟨#TR01, #TR11, #TR02, #TR12, #TR03, #TR13, #TA01, #TA11, #TA02, #TA12, #TA03, #TA13⟩, ⟨Hx, Hwq, Hk, Hv, Hwo⟩, Hout, Hpt, Hrs⟩ HQ
  ihave Hpt := (pt_split c p) $$ Hpt
  icases Hpt with ⟨Hp0, Hp1, Hp2⟩
  ihave Hrs := (rs_split c r) $$ Hrs
  icases Hrs with ⟨Hr00, Hr01, Hr10, Hr11, Hr20, Hr21, Hr30, Hr31⟩
  ihave Hout := (out_split c o) $$ Hout
  icases Hout with ⟨Ho00, Ho01, Ho10, Ho11, Ho20, Ho21, Ho30, Ho31⟩
  imod (close_unused I K c (.rsR 0 0) rfl) $$ [Hi0] with VrsR00
  · isplitr; · iexact HR
    iexact Hi0
  imod (close_unused I K c (.rsR 1 0) rfl) $$ [Hi1] with VrsR10
  · isplitr; · iexact HR
    iexact Hi1
  imod (close_unused I K c (.agR 0 0) rfl) $$ [Hi2] with VagR00
  · isplitr; · iexact HR
    iexact Hi2
  imod (close_unused I K c (.agR 1 0) rfl) $$ [Hi3] with VagR10
  · isplitr; · iexact HR
    iexact Hi3
  sl_exec
  iapply (step_ptload c 0 ![0, 0, 0] rfl _ _ _) $$ Hp0
  iintro %w0 Hp0
  try iapply (wp_skip c)
  iapply (step_ptstore I c 0 ![0, 0, 0] rfl _ _ ?_ _ _) $$ Hp0
  · exact (printed_1 (k0 := kL (I c).k (k0_off2 c 1#32) (k0_off2_inb c 0)) (v0 := vL (I c).v (k0_off2 c 1#32) (k0_off2_inb c 0)) (k1 := kL (I c).k (k0_off3 c 1#32) (k0_off3_inb c 0)) (v1 := vL (I c).v (k0_off3 c 1#32) (k0_off3_inb c 0)) (k2 := kL (I c).k (k0_off4 c 1#32) (k0_off4_inb c 0)) (v2 := vL (I c).v (k0_off4 c 1#32) (k0_off4_inb c 0)) (k3 := kL (I c).k (k0_off5 c 1#32) (k0_off5_inb c 0)) (v3 := vL (I c).v (k0_off5 c 1#32) (k0_off5_inb c 0)) (wq := wqL (I c).wq) (wo := woL (I c).wo) (x := xL (I c).x (k0_off1 c 1#32) (k0_off1_inb c 0)) (W := (nextW c 1#32))).trans (chain_1 (I c) c)
  iintro ⟨P00, P01⟩
  try iapply (wp_skip c)
  try sl_exec
  iapply (step_signal I K c 0 ⟨k0_dev1 c, k0_dev1_lt c⟩ (dev1_peer c _) (SemArray.scalar (sig.barrier 0 rfl)).sem rfl (1#32 : BitVec 32).toInt toInt_1 _ _ _) $$ [HO Hb0 Hr10 Hr11 Ho10 Ho11]
  · isplitr; · iexact HR
    isplitl [HO]; · iexact HO
    isplitl [Hb0]; · iexact Hb0
    unfold grant
    isplitl [Hr10 Ho10]
    · isplitl [Hr10]; · iexact Hr10
      isplitl [Ho10]; · iexact Ho10
      isplitr; · iexact TR01
      iexact TA01
    isplitl [Hr11]; · iexact Hr11
    isplitl [Ho11]; · iexact Ho11
    isplitr; · iexact TR11
    iexact TA11
  iintro HO
  try iapply (wp_skip c)
  try sl_exec
  iapply (step_signal I K c 1 ⟨k0_dev2 c, k0_dev2_lt c⟩ (dev2_peer c _) (SemArray.scalar (sig.barrier 0 rfl)).sem rfl (1#32 : BitVec 32).toInt toInt_1 _ _ _) $$ [HO Hb1 Hr20 Hr21 Ho20 Ho21]
  · isplitr; · iexact HR
    isplitl [HO]; · iexact HO
    isplitl [Hb1]; · iexact Hb1
    unfold grant
    isplitl [Hr20 Ho20]
    · isplitl [Hr20]; · iexact Hr20
      isplitl [Ho20]; · iexact Ho20
      isplitr; · iexact TR02
      iexact TA02
    isplitl [Hr21]; · iexact Hr21
    isplitl [Ho21]; · iexact Ho21
    isplitr; · iexact TR12
    iexact TA12
  iintro HO
  try iapply (wp_skip c)
  try sl_exec
  iapply (step_signal I K c 2 ⟨k0_dev3 c, k0_dev3_lt c⟩ (dev3_peer c _) (SemArray.scalar (sig.barrier 0 rfl)).sem rfl (1#32 : BitVec 32).toInt toInt_1 _ _ _) $$ [HO Hb2 Hr30 Hr31 Ho30 Ho31]
  · isplitr; · iexact HR
    isplitl [HO]; · iexact HO
    isplitl [Hb2]; · iexact Hb2
    unfold grant
    isplitl [Hr30 Ho30]
    · isplitl [Hr30]; · iexact Hr30
      isplitl [Ho30]; · iexact Ho30
      isplitr; · iexact TR03
      iexact TA03
    isplitl [Hr31]; · iexact Hr31
    isplitl [Ho31]; · iexact Ho31
    isplitr; · iexact TR13
    iexact TA13
  iintro HO
  try iapply (wp_skip c)
  try sl_exec
  iapply (step_barwait I K c (SemArray.scalar (sig.barrier 0 rfl)).sem rfl (3#32 : BitVec 32).toInt toInt_3 (owed3 c) (owed3_above c) _ _) $$ [HO Hbc Hba]
  · isplitr; · iexact HR
    isplitl [HO]; · iexact HO
    isplitl [Hbc]; · iexact Hbc
    iexact Hba
  iintro ⟨HO, Vbar, Hg⟩
  unfold barPay grant
  icases Hg with ⟨⟨⟨D00, E00, #X00, #Y00⟩, D10, E10, #X10, #Y10⟩, ⟨⟨D01, E01, #X01, #Y01⟩, D11, E11, #X11, #Y11⟩, ⟨D02, E02, #X02, #Y02⟩, D12, E12, #X12, #Y12⟩
  try iapply (wp_skip c)
  try sl_exec
  iapply (step_rs I K c 0 0 ⟨k0_dev4 c, k0_dev4_lt c⟩ (dev4_peer c _) _ _ rfl rfl _ _ rfl rfl _ _ _) $$ [HO S00 P00 D00]
  · isplitr; · iexact HR
    isplitl [HO]; · iexact HO
    isplitl [S00]; · iexact S00
    isplitl [P00]; · iexact P00
    isplitl [D00]; · iexact D00
    iexact X00
  iintro ⟨HO, F00⟩
  try iapply (wp_skip c)
  try sl_exec
  iapply (step_rs I K c 1 0 ⟨k0_dev5 c, k0_dev5_lt c⟩ (dev5_peer c _) _ _ rfl rfl _ _ rfl rfl _ _ _) $$ [HO S10 P01 D10]
  · isplitr; · iexact HR
    isplitl [HO]; · iexact HO
    isplitl [S10]; · iexact S10
    isplitl [P01]; · iexact P01
    isplitl [D10]; · iexact D10
    iexact X10
  iintro ⟨HO, F10⟩
  try iapply (wp_skip c)
  try sl_exec
  iapply (step_ptload c 1 ![1, 0, 0] rfl _ _ _) $$ Hp1
  iintro %w1 Hp1
  try iapply (wp_skip c)
  iapply (step_ptstore I c 1 ![1, 0, 0] rfl _ _ ?_ _ _) $$ Hp1
  · exact (printed_2 (k0 := kL (I c).k (k0_off2 c 2#32) (k0_off2_inb c 1)) (v0 := vL (I c).v (k0_off2 c 2#32) (k0_off2_inb c 1)) (k1 := kL (I c).k (k0_off3 c 2#32) (k0_off3_inb c 1)) (v1 := vL (I c).v (k0_off3 c 2#32) (k0_off3_inb c 1)) (k2 := kL (I c).k (k0_off4 c 2#32) (k0_off4_inb c 1)) (v2 := vL (I c).v (k0_off4 c 2#32) (k0_off4_inb c 1)) (k3 := kL (I c).k (k0_off5 c 2#32) (k0_off5_inb c 1)) (v3 := vL (I c).v (k0_off5 c 2#32) (k0_off5_inb c 1)) (wq := wqL (I c).wq) (wo := woL (I c).wo) (x := xL (I c).x (k0_off1 c 2#32) (k0_off1_inb c 1)) (W := (nextW c 2#32))).trans (chain_2 (I c) c)
  iintro ⟨P10, P11⟩
  try iapply (wp_skip c)
  try sl_exec
  iapply (step_rs I K c 0 1 ⟨k0_dev6 c, k0_dev6_lt c⟩ (dev6_peer c _) _ _ rfl rfl _ _ rfl rfl _ _ _) $$ [HO S01 P10 D01]
  · isplitr; · iexact HR
    isplitl [HO]; · iexact HO
    isplitl [S01]; · iexact S01
    isplitl [P10]; · iexact P10
    isplitl [D01]; · iexact D01
    iexact X01
  iintro ⟨HO, F01⟩
  try iapply (wp_skip c)
  try sl_exec
  iapply (step_rs I K c 1 1 ⟨k0_dev7 c, k0_dev7_lt c⟩ (dev7_peer c _) _ _ rfl rfl _ _ rfl rfl _ _ _) $$ [HO S11 P11 D11]
  · isplitr; · iexact HR
    isplitl [HO]; · iexact HO
    isplitl [S11]; · iexact S11
    isplitl [P11]; · iexact P11
    isplitl [D11]; · iexact D11
    iexact X11
  iintro ⟨HO, F11⟩
  try iapply (wp_skip c)
  try sl_exec
  iapply (step_ptload c 2 ![2, 0, 0] rfl _ _ _) $$ Hp2
  iintro %w2 Hp2
  try iapply (wp_skip c)
  iapply (step_ptstore I c 2 ![2, 0, 0] rfl _ _ ?_ _ _) $$ Hp2
  · exact (printed_3 (k0 := kL (I c).k (k0_off2 c 3#32) (k0_off2_inb c 2)) (v0 := vL (I c).v (k0_off2 c 3#32) (k0_off2_inb c 2)) (k1 := kL (I c).k (k0_off3 c 3#32) (k0_off3_inb c 2)) (v1 := vL (I c).v (k0_off3 c 3#32) (k0_off3_inb c 2)) (k2 := kL (I c).k (k0_off4 c 3#32) (k0_off4_inb c 2)) (v2 := vL (I c).v (k0_off4 c 3#32) (k0_off4_inb c 2)) (k3 := kL (I c).k (k0_off5 c 3#32) (k0_off5_inb c 2)) (v3 := vL (I c).v (k0_off5 c 3#32) (k0_off5_inb c 2)) (wq := wqL (I c).wq) (wo := woL (I c).wo) (x := xL (I c).x (k0_off1 c 3#32) (k0_off1_inb c 2)) (W := (myW c))).trans (chain_3 (I c) c)
  iintro ⟨P20, P21⟩
  try iapply (wp_skip c)
  try sl_exec
  iapply (step_rs I K c 0 2 ⟨k0_dev8 c, k0_dev8_lt c⟩ (dev8_peer c _) _ _ rfl rfl _ _ rfl rfl _ _ _) $$ [HO S02 P20 D02]
  · isplitr; · iexact HR
    isplitl [HO]; · iexact HO
    isplitl [S02]; · iexact S02
    isplitl [P20]; · iexact P20
    isplitl [D02]; · iexact D02
    iexact X02
  iintro ⟨HO, F02⟩
  try iapply (wp_skip c)
  try sl_exec
  iapply (step_rs I K c 1 2 ⟨k0_dev9 c, k0_dev9_lt c⟩ (dev9_peer c _) _ _ rfl rfl _ _ rfl rfl _ _ _) $$ [HO S12 P21 D12]
  · isplitr; · iexact HR
    isplitl [HO]; · iexact HO
    isplitl [S12]; · iexact S12
    isplitl [P21]; · iexact P21
    isplitl [D12]; · iexact D12
    iexact X12
  iintro ⟨HO, F12⟩
  try iapply (wp_skip c)
  try sl_exec
  iapply (step_wait I K c (.rsR 0 1) rfl (rsPt c 1 0 (RS I c)) rfl _ rfl (owed2 c) (owed2_above c) _ _ _ _ ?_ _ _) $$ [HO R01]
  · rfl
  · isplitr; · iexact HR
    isplitl [HO]; · iexact HO
    iexact R01
  iintro ⟨HO, VrsR01, Q01⟩
  try iapply (wp_skip c)
  try sl_exec
  iapply (step_wait I K c (.rsR 0 2) rfl (rsPt c 2 0 (RS I c)) rfl _ rfl (owed2 c) (owed2_above c) _ _ _ _ ?_ _ _) $$ [HO R02]
  · rfl
  · isplitr; · iexact HR
    isplitl [HO]; · iexact HO
    iexact R02
  iintro ⟨HO, VrsR02, Q02⟩
  try iapply (wp_skip c)
  try sl_exec
  iapply (step_wait I K c (.rsR 0 3) rfl (rsPt c 3 0 (RS I c)) rfl _ rfl (owed2 c) (owed2_above c) _ _ _ _ ?_ _ _) $$ [HO R03]
  · rfl
  · isplitr; · iexact HR
    isplitl [HO]; · iexact HO
    iexact R03
  iintro ⟨HO, VrsR03, Q03⟩
  try iapply (wp_skip c)
  try sl_exec
  iapply (step_rsload c 1 0 ![1, 0, 0] rfl _ (RS I c) _ _) $$ Q01
  iintro Q01
  try iapply (wp_skip c)
  try sl_exec
  iapply (step_rsload c 2 0 ![2, 0, 0] rfl _ (RS I c) _ _) $$ Q02
  iintro Q02
  try iapply (wp_skip c)
  try sl_exec
  iapply (step_rsload c 3 0 ![3, 0, 0] rfl _ (RS I c) _ _) $$ Q03
  iintro Q03
  try iapply (wp_skip c)
  try sl_exec
  iapply (step_outload c c 0 (k0_off11 c 0#32) (off11_0 c) _ _ _) $$ Ho00
  iintro %u0 Ho00
  try iapply (wp_skip c)
  try sl_exec
  iapply (step_outstore I c 0 (k0_off11 c 0#32) (off11_0 c) _ _ ?_ _ _) $$ Ho00
  · exact congrArg (fun z => redHalf z (RS I c) 0) ((printed_own (k0 := kL (I c).k (k0_off7 c) (k0_off7_inb c)) (v0 := vL (I c).v (k0_off7 c) (k0_off7_inb c)) (k1 := kL (I c).k (k0_off8 c) (k0_off8_inb c)) (v1 := vL (I c).v (k0_off8 c) (k0_off8_inb c)) (k2 := kL (I c).k (k0_off9 c) (k0_off9_inb c)) (v2 := vL (I c).v (k0_off9 c) (k0_off9_inb c)) (k3 := kL (I c).k (k0_off10 c) (k0_off10_inb c)) (v3 := vL (I c).v (k0_off10 c) (k0_off10_inb c)) (wq := wqL (I c).wq) (wo := woL (I c).wo) (x := xL (I c).x (k0_off6 c) (k0_off6_inb c)) (W := myW c) (hM := maskOwn_eq c)).trans (chain_own (I c) c))
  iintro ⟨O00, O01, O02⟩
  try iapply (wp_skip c)
  try sl_exec
  iapply (step_ag I K c 0 0 ⟨k0_dev10 c, k0_dev10_lt c⟩ (dev10_peer c _) _ _ (outPc_0 c _ _) (outPc_0 c _ _) _ _ rfl rfl _ _ _) $$ [HO A00 O00 E00]
  · isplitr; · iexact HR
    isplitl [HO]; · iexact HO
    isplitl [A00]; · iexact A00
    isplitl [O00]; · iexact O00
    isplitl [E00]; · iexact E00
    iexact Y00
  iintro ⟨HO, B00⟩
  try iapply (wp_skip c)
  try sl_exec
  iapply (step_ag I K c 0 1 ⟨k0_dev11 c, k0_dev11_lt c⟩ (dev11_peer c _) _ _ (outPc_0 c _ _) (outPc_0 c _ _) _ _ rfl rfl _ _ _) $$ [HO A01 O01 E01]
  · isplitr; · iexact HR
    isplitl [HO]; · iexact HO
    isplitl [A01]; · iexact A01
    isplitl [O01]; · iexact O01
    isplitl [E01]; · iexact E01
    iexact Y01
  iintro ⟨HO, B01⟩
  try iapply (wp_skip c)
  try sl_exec
  iapply (step_ag I K c 0 2 ⟨k0_dev12 c, k0_dev12_lt c⟩ (dev12_peer c _) _ _ (outPc_0 c _ _) (outPc_0 c _ _) _ _ rfl rfl _ _ _) $$ [HO A02 O02 E02]
  · isplitr; · iexact HR
    isplitl [HO]; · iexact HO
    isplitl [A02]; · iexact A02
    isplitl [O02]; · iexact O02
    isplitl [E02]; · iexact E02
    iexact Y02
  iintro ⟨HO, B02⟩
  try iapply (wp_skip c)
  try sl_exec
  iapply (step_wait I K c (.rsR 1 1) rfl (rsPt c 1 1 (RS I c)) rfl _ rfl (owed1 c) (owed1_above c) _ _ _ _ ?_ _ _) $$ [HO R11]
  · rfl
  · isplitr; · iexact HR
    isplitl [HO]; · iexact HO
    iexact R11
  iintro ⟨HO, VrsR11, Q11⟩
  try iapply (wp_skip c)
  try sl_exec
  iapply (step_wait I K c (.rsR 1 2) rfl (rsPt c 2 1 (RS I c)) rfl _ rfl (owed1 c) (owed1_above c) _ _ _ _ ?_ _ _) $$ [HO R12]
  · rfl
  · isplitr; · iexact HR
    isplitl [HO]; · iexact HO
    iexact R12
  iintro ⟨HO, VrsR12, Q12⟩
  try iapply (wp_skip c)
  try sl_exec
  iapply (step_wait I K c (.rsR 1 3) rfl (rsPt c 3 1 (RS I c)) rfl _ rfl (owed1 c) (owed1_above c) _ _ _ _ ?_ _ _) $$ [HO R13]
  · rfl
  · isplitr; · iexact HR
    isplitl [HO]; · iexact HO
    iexact R13
  iintro ⟨HO, VrsR13, Q13⟩
  try iapply (wp_skip c)
  try sl_exec
  iapply (step_rsload c 1 1 ![1, 64, 0] rfl _ (RS I c) _ _) $$ Q11
  iintro Q11
  try iapply (wp_skip c)
  try sl_exec
  iapply (step_rsload c 2 1 ![2, 64, 0] rfl _ (RS I c) _ _) $$ Q12
  iintro Q12
  try iapply (wp_skip c)
  try sl_exec
  iapply (step_rsload c 3 1 ![3, 64, 0] rfl _ (RS I c) _ _) $$ Q13
  iintro Q13
  try iapply (wp_skip c)
  try sl_exec
  iapply (step_outload c c 1 (k0_off11 c 64#32) (off11_1 c) _ _ _) $$ Ho01
  iintro %u1 Ho01
  try iapply (wp_skip c)
  try sl_exec
  iapply (step_outstore I c 1 (k0_off11 c 64#32) (off11_1 c) _ _ ?_ _ _) $$ Ho01
  · exact congrArg (fun z => redHalf z (RS I c) 1) ((printed_own (k0 := kL (I c).k (k0_off7 c) (k0_off7_inb c)) (v0 := vL (I c).v (k0_off7 c) (k0_off7_inb c)) (k1 := kL (I c).k (k0_off8 c) (k0_off8_inb c)) (v1 := vL (I c).v (k0_off8 c) (k0_off8_inb c)) (k2 := kL (I c).k (k0_off9 c) (k0_off9_inb c)) (v2 := vL (I c).v (k0_off9 c) (k0_off9_inb c)) (k3 := kL (I c).k (k0_off10 c) (k0_off10_inb c)) (v3 := vL (I c).v (k0_off10 c) (k0_off10_inb c)) (wq := wqL (I c).wq) (wo := woL (I c).wo) (x := xL (I c).x (k0_off6 c) (k0_off6_inb c)) (W := myW c) (hM := maskOwn_eq c)).trans (chain_own (I c) c))
  iintro ⟨O10, O11, O12⟩
  try iapply (wp_skip c)
  try sl_exec
  iapply (step_ag I K c 1 0 ⟨k0_dev13 c, k0_dev13_lt c⟩ (dev13_peer c _) _ _ (outPc_1 c _ _) (outPc_1 c _ _) _ _ rfl rfl _ _ _) $$ [HO A10 O10 E10]
  · isplitr; · iexact HR
    isplitl [HO]; · iexact HO
    isplitl [A10]; · iexact A10
    isplitl [O10]; · iexact O10
    isplitl [E10]; · iexact E10
    iexact Y10
  iintro ⟨HO, B10⟩
  try iapply (wp_skip c)
  try sl_exec
  iapply (step_ag I K c 1 1 ⟨k0_dev14 c, k0_dev14_lt c⟩ (dev14_peer c _) _ _ (outPc_1 c _ _) (outPc_1 c _ _) _ _ rfl rfl _ _ _) $$ [HO A11 O11 E11]
  · isplitr; · iexact HR
    isplitl [HO]; · iexact HO
    isplitl [A11]; · iexact A11
    isplitl [O11]; · iexact O11
    isplitl [E11]; · iexact E11
    iexact Y11
  iintro ⟨HO, B11⟩
  try iapply (wp_skip c)
  try sl_exec
  iapply (step_ag I K c 1 2 ⟨k0_dev15 c, k0_dev15_lt c⟩ (dev15_peer c _) _ _ (outPc_1 c _ _) (outPc_1 c _ _) _ _ rfl rfl _ _ _) $$ [HO A12 O12 E12]
  · isplitr; · iexact HR
    isplitl [HO]; · iexact HO
    isplitl [A12]; · iexact A12
    isplitl [O12]; · iexact O12
    isplitl [E12]; · iexact E12
    iexact Y12
  iintro ⟨HO, B12⟩
  try iapply (wp_skip c)
  try sl_exec
  iapply (step_wait I K c (.agR 0 1) rfl (outPt c (c + 1) 0 (OUT I)) rfl _ rfl [] (fun _ h => nomatch h) _ _ _ _ ?_ _ _) $$ [HO G01]
  · rfl
  · isplitr; · iexact HR
    isplitl [HO]; · iexact HO
    iexact G01
  iintro ⟨HO, VagR01, Z01⟩
  try iapply (wp_skip c)
  try sl_exec
  iapply (step_wait I K c (.agR 0 2) rfl (outPt c (c + 2) 0 (OUT I)) rfl _ rfl [] (fun _ h => nomatch h) _ _ _ _ ?_ _ _) $$ [HO G02]
  · rfl
  · isplitr; · iexact HR
    isplitl [HO]; · iexact HO
    iexact G02
  iintro ⟨HO, VagR02, Z02⟩
  try iapply (wp_skip c)
  try sl_exec
  iapply (step_wait I K c (.agR 0 3) rfl (outPt c (c + 3) 0 (OUT I)) rfl _ rfl [] (fun _ h => nomatch h) _ _ _ _ ?_ _ _) $$ [HO G03]
  · rfl
  · isplitr; · iexact HR
    isplitl [HO]; · iexact HO
    iexact G03
  iintro ⟨HO, VagR03, Z03⟩
  try iapply (wp_skip c)
  try sl_exec
  iapply (step_wait I K c (.agR 1 1) rfl (outPt c (c + 1) 1 (OUT I)) rfl _ rfl [] (fun _ h => nomatch h) _ _ _ _ ?_ _ _) $$ [HO G11]
  · rfl
  · isplitr; · iexact HR
    isplitl [HO]; · iexact HO
    iexact G11
  iintro ⟨HO, VagR11, Z11⟩
  try iapply (wp_skip c)
  try sl_exec
  iapply (step_wait I K c (.agR 1 2) rfl (outPt c (c + 2) 1 (OUT I)) rfl _ rfl [] (fun _ h => nomatch h) _ _ _ _ ?_ _ _) $$ [HO G12]
  · rfl
  · isplitr; · iexact HR
    isplitl [HO]; · iexact HO
    iexact G12
  iintro ⟨HO, VagR12, Z12⟩
  try iapply (wp_skip c)
  try sl_exec
  iapply (step_wait I K c (.agR 1 3) rfl (outPt c (c + 3) 1 (OUT I)) rfl _ rfl [] (fun _ h => nomatch h) _ _ _ _ ?_ _ _) $$ [HO G13]
  · rfl
  · isplitr; · iexact HR
    isplitl [HO]; · iexact HO
    iexact G13
  iintro ⟨HO, VagR13, Z13⟩
  try iapply (wp_skip c)
  try sl_exec
  iapply (step_wait I K c (.rsS 0 0) rfl (ptPt c 0 0 (PT I c)) rfl _ rfl [] (fun _ h => nomatch h) _ _ _ _ ?_ _ _) $$ [HO F00]
  · rfl
  · isplitr; · iexact HR
    isplitl [HO]; · iexact HO
    iexact F00
  iintro ⟨HO, VrsS00, P00⟩
  try iapply (wp_skip c)
  try sl_exec
  iapply (step_wait I K c (.rsS 1 0) rfl (ptPt c 0 1 (PT I c)) rfl _ rfl [] (fun _ h => nomatch h) _ _ _ _ ?_ _ _) $$ [HO F10]
  · rfl
  · isplitr; · iexact HR
    isplitl [HO]; · iexact HO
    iexact F10
  iintro ⟨HO, VrsS10, P01⟩
  try iapply (wp_skip c)
  try sl_exec
  iapply (step_wait I K c (.rsS 0 1) rfl (ptPt c 1 0 (PT I c)) rfl _ rfl [] (fun _ h => nomatch h) _ _ _ _ ?_ _ _) $$ [HO F01]
  · rfl
  · isplitr; · iexact HR
    isplitl [HO]; · iexact HO
    iexact F01
  iintro ⟨HO, VrsS01, P10⟩
  try iapply (wp_skip c)
  try sl_exec
  iapply (step_wait I K c (.rsS 1 1) rfl (ptPt c 1 1 (PT I c)) rfl _ rfl [] (fun _ h => nomatch h) _ _ _ _ ?_ _ _) $$ [HO F11]
  · rfl
  · isplitr; · iexact HR
    isplitl [HO]; · iexact HO
    iexact F11
  iintro ⟨HO, VrsS11, P11⟩
  try iapply (wp_skip c)
  try sl_exec
  iapply (step_wait I K c (.rsS 0 2) rfl (ptPt c 2 0 (PT I c)) rfl _ rfl [] (fun _ h => nomatch h) _ _ _ _ ?_ _ _) $$ [HO F02]
  · rfl
  · isplitr; · iexact HR
    isplitl [HO]; · iexact HO
    iexact F02
  iintro ⟨HO, VrsS02, P20⟩
  try iapply (wp_skip c)
  try sl_exec
  iapply (step_wait I K c (.rsS 1 2) rfl (ptPt c 2 1 (PT I c)) rfl _ rfl [] (fun _ h => nomatch h) _ _ _ _ ?_ _ _) $$ [HO F12]
  · rfl
  · isplitr; · iexact HR
    isplitl [HO]; · iexact HO
    iexact F12
  iintro ⟨HO, VrsS12, P21⟩
  try iapply (wp_skip c)
  try sl_exec
  iapply (step_wait I K c (.agS 0 0) rfl (outPtq c c 0 (third 0) (OUT I)) rfl _ rfl [] (fun _ h => nomatch h) _ _ _ _ ?_ _ _) $$ [HO B00]
  · rfl
  · isplitr; · iexact HR
    isplitl [HO]; · iexact HO
    iexact B00
  iintro ⟨HO, VagS00, O00⟩
  try iapply (wp_skip c)
  try sl_exec
  iapply (step_wait I K c (.agS 0 1) rfl (outPtq c c 0 (third 1) (OUT I)) rfl _ rfl [] (fun _ h => nomatch h) _ _ _ _ ?_ _ _) $$ [HO B01]
  · rfl
  · isplitr; · iexact HR
    isplitl [HO]; · iexact HO
    iexact B01
  iintro ⟨HO, VagS01, O01⟩
  try iapply (wp_skip c)
  try sl_exec
  iapply (step_wait I K c (.agS 0 2) rfl (outPtq c c 0 (third 2) (OUT I)) rfl _ rfl [] (fun _ h => nomatch h) _ _ _ _ ?_ _ _) $$ [HO B02]
  · rfl
  · isplitr; · iexact HR
    isplitl [HO]; · iexact HO
    iexact B02
  iintro ⟨HO, VagS02, O02⟩
  try iapply (wp_skip c)
  try sl_exec
  iapply (step_wait I K c (.agS 1 0) rfl (outPtq c c 1 (third 0) (OUT I)) rfl _ rfl [] (fun _ h => nomatch h) _ _ _ _ ?_ _ _) $$ [HO B10]
  · rfl
  · isplitr; · iexact HR
    isplitl [HO]; · iexact HO
    iexact B10
  iintro ⟨HO, VagS10, O10⟩
  try iapply (wp_skip c)
  try sl_exec
  iapply (step_wait I K c (.agS 1 1) rfl (outPtq c c 1 (third 1) (OUT I)) rfl _ rfl [] (fun _ h => nomatch h) _ _ _ _ ?_ _ _) $$ [HO B11]
  · rfl
  · isplitr; · iexact HR
    isplitl [HO]; · iexact HO
    iexact B11
  iintro ⟨HO, VagS11, O11⟩
  try iapply (wp_skip c)
  try sl_exec
  iapply (step_wait I K c (.agS 1 2) rfl (outPtq c c 1 (third 2) (OUT I)) rfl _ rfl [] (fun _ h => nomatch h) _ _ _ _ ?_ _ _) $$ [HO B12]
  · rfl
  · isplitr; · iexact HR
    isplitl [HO]; · iexact HO
    iexact B12
  iintro ⟨HO, VagS12, O12⟩
  try iapply (wp_skip c)
  try sl_exec
  ihave Hpt := (pt_join c (PT I c)) $$ [P00 P01 P10 P11 P20 P21]
  · isplitl [P00]; · iexact P00
    isplitl [P01]; · iexact P01
    isplitl [P10]; · iexact P10
    isplitl [P11]; · iexact P11
    isplitl [P20]; · iexact P20
    iexact P21
  ihave Hrs := (rs_join c r) $$ [Hr00 Hr01 Q01 Q11 Q02 Q12 Q03 Q13]
  · isplitl [Hr00]; · iexact Hr00
    isplitl [Hr01]; · iexact Hr01
    isplitl [Q01]; · iexists _; iexact Q01
    isplitl [Q11]; · iexists _; iexact Q11
    isplitl [Q02]; · iexists _; iexact Q02
    isplitl [Q12]; · iexists _; iexact Q12
    isplitl [Q03]; · iexists _; iexact Q03
    iexists _; iexact Q13
  ihave Hout := (out_join c (OUT I)) $$ [O00 O01 O02 O10 O11 O12 Z01 Z11 Z02 Z12 Z03 Z13]
  · isplitl [O00 O01 O02]
    · iapply (out_thirds c c 0 (OUT I)).2
      isplitl [O00]; · iexact O00
      isplitl [O01]; · iexact O01
      iexact O02
    isplitl [O10 O11 O12]
    · iapply (out_thirds c c 1 (OUT I)).2
      isplitl [O10]; · iexact O10
      isplitl [O11]; · iexact O11
      iexact O12
    isplitl [Z01]; · iexact Z01
    isplitl [Z11]; · iexact Z11
    isplitl [Z02]; · iexact Z02
    isplitl [Z12]; · iexact Z12
    isplitl [Z03]; · iexact Z03
    iexact Z13
  iapply (wp_done c)
  iapply HQ
  unfold bodyPost ins sems0
  isplitl [Hx Hwq Hk Hv Hwo]
  · isplitl [Hx]; · iexact Hx
    isplitl [Hwq]; · iexact Hwq
    isplitl [Hk]; · iexact Hk
    isplitl [Hv]; · iexact Hv
    iexact Hwo
  isplitl [Hout]; · iexact Hout
  isplitl [Hpt]; · iexists _; iexact Hpt
  isplitl [Hrs]; · iexact Hrs
  isplitl [HO]; · iexact HO
  isplitl [Vbar]; · iexact Vbar
  isplitl [VrsS00]; · iexact VrsS00
  isplitl [VrsS01]; · iexact VrsS01
  isplitl [VrsS02]; · iexact VrsS02
  isplitl [VrsS10]; · iexact VrsS10
  isplitl [VrsS11]; · iexact VrsS11
  isplitl [VrsS12]; · iexact VrsS12
  isplitl [VrsR00]; · iexact VrsR00
  isplitl [VrsR01]; · iexact VrsR01
  isplitl [VrsR02]; · iexact VrsR02
  isplitl [VrsR03]; · iexact VrsR03
  isplitl [VrsR10]; · iexact VrsR10
  isplitl [VrsR11]; · iexact VrsR11
  isplitl [VrsR12]; · iexact VrsR12
  isplitl [VrsR13]; · iexact VrsR13
  isplitl [VagS00]; · iexact VagS00
  isplitl [VagS01]; · iexact VagS01
  isplitl [VagS02]; · iexact VagS02
  isplitl [VagS10]; · iexact VagS10
  isplitl [VagS11]; · iexact VagS11
  isplitl [VagS12]; · iexact VagS12
  isplitl [VagR00]; · iexact VagR00
  isplitl [VagR01]; · iexact VagR01
  isplitl [VagR02]; · iexact VagR02
  isplitl [VagR03]; · iexact VagR03
  isplitl [VagR10]; · iexact VagR10
  isplitl [VagR11]; · iexact VagR11
  isplitl [VagR12]; · iexact VagR12
  iexact VagR13

end Cert.KernelIdeal.Hand

end
-- ==== Proof.Region.lean ====
/- The kernel's one pallas_call as the pipeline sees it: what it stages, what it leaves, and its body's obligation. -/
module

public import proofs.«01_k».proof.Proof.Body
public import proofs.«01_k».proof.Proof.Gen.KernelIdeal.Points
public import proofs.«01_k».proof.Proof.Gen.KernelIdeal.Regions
public import Idealize.ShloMosaic.Lib.Pipeline.ValueKit.Geometry

@[expose] public section

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

/-- What device `c` stages: its operands as the host operations leave them. -/
def inp (c : Fin 4) : Inp F :=
  ⟨V1 m c main_arg0, V1 m c main_arg1, V1 m c main_v10, V1 m c main_v16, V1 m c main_arg4⟩

/-- What the region leaves in the result. -/
def outs : Outs (F := F) := fun _ r c => if h : r = main_v17 then (by rw [h]; exact OUT (inp m)) else V1 m c r

/-- The staging buffers after the body: the operands as they were, the result. -/
def aft (c : Dev nD) : (w : Fin cfg0.W) → Fin cfg0.N → (cfg0.win w).block.Idx → Elt F (cfg0.win w).elt
  | 0 => fun _ => (inp m c).x
  | 1 => fun _ => (inp m c).wq
  | 2 => fun _ => (inp m c).k
  | 3 => fun _ => (inp m c).v
  | 4 => fun _ => (inp m c).wo
  | 5 => fun _ => OUT (inp m)
  | ⟨_ + 6, h⟩ => absurd h (Nat.not_lt.2 (Nat.le_add_left _ _))

def O₀ (c : Dev nD) : CellTallies nD τ sig Unit := owedOf (owed4 c)

/-- What the body starts from, beside its operands. -/
def given (c : Dev nD) : sProp 𝕄 :=
  iprop((∃ K, recs (inp m) K) ∗ cred (tallyAt (bc c) () 3) ∗ atPos ER (bc c) 0 ∅ 0 ∗ barToks c ∗ sendPacks c ∗ recvPacks c ∗ idle c ∗ told c)

def dat (c : Dev nD) : Dat τ (Elt F) Unit ℕ UU ℕ cfg0 c where
  A w := V1 m c (Proc.devRef .tc (Pipeline.arrRef spec0 w))
  after := aft m c
  Φ t := if t.val = 0 then iprop(given m c ∗ Pipeline.scopedRest spec0 c ∗ ∃ r, prngReg c r)
    else iprop((semVal (bc c) 0 ∗ sems0 c) ∗ Pipeline.scopedRest spec0 c ∗ ∃ r, prngReg c r)
  q _ := fullShare
  owed t := if t.val = 0 then O₀ c else 0

theorem before_0 (c : Dev nD) (d) : (dat m c).before 0 t0_0 d = (inp m c).x := by
  rw [Dat.before_fetched _ _ _ (fetch0_0 _)]
  funext i
  refine congrArg (V1 m c (Proc.devRef .tc main_arg0)) (funext fun a => Fin.ext ?_)
  exact Pipeline.Window.rect_emb_val_of_index_zero (cfg0.win 0) t0_0 a (by revert a; decide) _
theorem before_1 (c : Dev nD) (d) : (dat m c).before 1 t0_0 d = (inp m c).wq := by
  rw [Dat.before_fetched _ _ _ (fetch0_1 _)]
  funext i
  refine congrArg (V1 m c (Proc.devRef .tc main_arg1)) (funext fun a => Fin.ext ?_)
  exact Pipeline.Window.rect_emb_val_of_index_zero (cfg0.win 1) t0_0 a (by revert a; decide) _
theorem before_2 (c : Dev nD) (d) : (dat m c).before 2 t0_0 d = (inp m c).k := by
  rw [Dat.before_fetched _ _ _ (fetch0_2 _)]
  funext i
  refine congrArg (V1 m c (Proc.devRef .tc main_v10)) (funext fun a => Fin.ext ?_)
  exact Pipeline.Window.rect_emb_val_of_index_zero (cfg0.win 2) t0_0 a (by revert a; decide) _
theorem before_3 (c : Dev nD) (d) : (dat m c).before 3 t0_0 d = (inp m c).v := by
  rw [Dat.before_fetched _ _ _ (fetch0_3 _)]
  funext i
  refine congrArg (V1 m c (Proc.devRef .tc main_v16)) (funext fun a => Fin.ext ?_)
  exact Pipeline.Window.rect_emb_val_of_index_zero (cfg0.win 3) t0_0 a (by revert a; decide) _
theorem before_4 (c : Dev nD) (d) : (dat m c).before 4 t0_0 d = (inp m c).wo := by
  rw [Dat.before_fetched _ _ _ (fetch0_4 _)]
  funext i
  refine congrArg (V1 m c (Proc.devRef .tc main_arg4)) (funext fun a => Fin.ext ?_)
  exact Pipeline.Window.rect_emb_val_of_index_zero (cfg0.win 4) t0_0 a (by revert a; decide) _
theorem after_5 (c : Dev nD) : (dat m c).arrAt 5 cfg0.N = OUT (inp m) :=
  (dat m c).arrAt_eq_of_after_last 5 t0_0 (by decide +kernel) _ (fun j => rfl)

theorem owed_first (c : Dev nD) : (dat m c).owed t0_0.castSucc = O₀ c := by
  show (if (t0_0.castSucc : Fin (cfg0.N + 1)).val = 0 then O₀ c else 0) = O₀ c; exact if_pos rfl
theorem owed_zero (c : Dev nD) : (dat m c).owed 0 = O₀ c := by
  show (if ((0 : Fin (cfg0.N + 1)).val = 0) then O₀ c else 0) = O₀ c; exact if_pos rfl
theorem owed_last (c : Dev nD) : (dat m c).owed (Fin.last _) = 0 := by
  show (if (Fin.last cfg0.N).val = 0 then O₀ c else 0) = 0
  rw [Fin.val_last, if_neg (by rw [show cfg0.N = 1 from N_0]; decide)]

/-- What the core owes, in and out of the bound the loop keeps. -/
theorem owes_in (c : Dev nD) (t : Fin (cfg0.N + 1)) (O : CellTallies nD τ sig Unit) (h : (dat m c).owed t = O) (W : Waits sig Unit) :
    (owes (th c) O W : sProp 𝕄) ⊢ (dat m c).owesAt () t := by
  unfold Dat.owesAt Pipeline.owesWithin
  rw [h]
  iintro H
  iexists W
  isplitr
  · ipureintro; exact fun _ _ => Or.inl trivial
  iexact H
theorem owes_out (c : Dev nD) (t : Fin (cfg0.N + 1)) (O : CellTallies nD τ sig Unit) (h : (dat m c).owed t = O) :
    ((dat m c).owesAt () t : sProp 𝕄) ⊢ iprop(∃ W, owes (th c) O W) := by
  unfold Dat.owesAt Pipeline.owesWithin
  rw [h]
  iintro ⟨%W, -, H⟩
  iexists W
  iexact H

/-- A staging buffer held whole. -/
theorem owns_stg (c : Dev nD) (b : Ref sig .tc) (f : b.ty.Contents (Elt F)) :
    (owns (th c) (Memref.whole b) fullShare f : sProp 𝕄) = iprop((Memref.whole b).view.loc (th c) ↦{fullShare} f) := owns_whole _ _ _ _

theorem stg_0 (c : Dev nD) (d) : (owns (th c) ((cfg0.win 0).stage (cfg0.slots t0_0 0)) fullShare ((dat m c).before 0 t0_0 d) : sProp 𝕄)
    ⊢ iprop(xM.view.loc (th c) ↦{fullShare} (inp m c).x) := by
  rw [before_0]; exact Entails.of_eq (owns_stg c cc0_stg0_0 _)
theorem lft_0 (c : Dev nD) : (iprop(xM.view.loc (th c) ↦{fullShare} (inp m c).x) : sProp 𝕄)
    ⊢ owns (th c) ((cfg0.win 0).stage (cfg0.slots t0_0 0)) fullShare ((dat m c).after 0 t0_0) :=
  Entails.of_eq (owns_stg c cc0_stg0_0 _).symm
theorem stg_1 (c : Dev nD) (d) : (owns (th c) ((cfg0.win 1).stage (cfg0.slots t0_0 1)) fullShare ((dat m c).before 1 t0_0 d) : sProp 𝕄)
    ⊢ iprop(wqM.view.loc (th c) ↦{fullShare} (inp m c).wq) := by
  rw [before_1]; exact Entails.of_eq (owns_stg c cc0_stg1_0 _)
theorem lft_1 (c : Dev nD) : (iprop(wqM.view.loc (th c) ↦{fullShare} (inp m c).wq) : sProp 𝕄)
    ⊢ owns (th c) ((cfg0.win 1).stage (cfg0.slots t0_0 1)) fullShare ((dat m c).after 1 t0_0) :=
  Entails.of_eq (owns_stg c cc0_stg1_0 _).symm
theorem stg_2 (c : Dev nD) (d) : (owns (th c) ((cfg0.win 2).stage (cfg0.slots t0_0 2)) fullShare ((dat m c).before 2 t0_0 d) : sProp 𝕄)
    ⊢ iprop(kM.view.loc (th c) ↦{fullShare} (inp m c).k) := by
  rw [before_2]; exact Entails.of_eq (owns_stg c cc0_stg2_0 _)
theorem lft_2 (c : Dev nD) : (iprop(kM.view.loc (th c) ↦{fullShare} (inp m c).k) : sProp 𝕄)
    ⊢ owns (th c) ((cfg0.win 2).stage (cfg0.slots t0_0 2)) fullShare ((dat m c).after 2 t0_0) :=
  Entails.of_eq (owns_stg c cc0_stg2_0 _).symm
theorem stg_3 (c : Dev nD) (d) : (owns (th c) ((cfg0.win 3).stage (cfg0.slots t0_0 3)) fullShare ((dat m c).before 3 t0_0 d) : sProp 𝕄)
    ⊢ iprop(vM.view.loc (th c) ↦{fullShare} (inp m c).v) := by
  rw [before_3]; exact Entails.of_eq (owns_stg c cc0_stg3_0 _)
theorem lft_3 (c : Dev nD) : (iprop(vM.view.loc (th c) ↦{fullShare} (inp m c).v) : sProp 𝕄)
    ⊢ owns (th c) ((cfg0.win 3).stage (cfg0.slots t0_0 3)) fullShare ((dat m c).after 3 t0_0) :=
  Entails.of_eq (owns_stg c cc0_stg3_0 _).symm
theorem stg_4 (c : Dev nD) (d) : (owns (th c) ((cfg0.win 4).stage (cfg0.slots t0_0 4)) fullShare ((dat m c).before 4 t0_0 d) : sProp 𝕄)
    ⊢ iprop(woM.view.loc (th c) ↦{fullShare} (inp m c).wo) := by
  rw [before_4]; exact Entails.of_eq (owns_stg c cc0_stg4_0 _)
theorem lft_4 (c : Dev nD) : (iprop(woM.view.loc (th c) ↦{fullShare} (inp m c).wo) : sProp 𝕄)
    ⊢ owns (th c) ((cfg0.win 4).stage (cfg0.slots t0_0 4)) fullShare ((dat m c).after 4 t0_0) :=
  Entails.of_eq (owns_stg c cc0_stg4_0 _).symm
theorem stg_5 (c : Dev nD) (d) : (owns (th c) ((cfg0.win 5).stage (cfg0.slots t0_0 5)) fullShare ((dat m c).before 5 t0_0 d) : sProp 𝕄)
    ⊢ iprop(outM.view.loc (th c) ↦{fullShare} ((dat m c).before 5 t0_0 d)) :=
  Entails.of_eq (owns_stg c cc0_stg5_0 _)
theorem lft_5 (c : Dev nD) : (iprop(outM.view.loc (th c) ↦{fullShare} OUT (inp m)) : sProp 𝕄)
    ⊢ owns (th c) ((cfg0.win 5).stage (cfg0.slots t0_0 5)) fullShare ((dat m c).after 5 t0_0) :=
  Entails.of_eq (owns_stg c cc0_stg5_0 _).symm

theorem body_ob (c : Dev nD) : BodyObligation (dat m c) (defs₀ (F := F)) 𝒱₀ () Set.univ := fun t => by
  obtain rfl := fin_N0 t
  rw [bigSep_W0, bigSep_W0]
  rw [show (dat m c).Φ t0_0.castSucc = iprop(given m c ∗ Pipeline.scopedRest spec0 c ∗ ∃ r, prngReg c r) from rfl,
    show (dat m c).Φ t0_0.succ = iprop((semVal (bc c) 0 ∗ sems0 c) ∗ Pipeline.scopedRest spec0 c ∗ ∃ r, prngReg c r) from rfl, scopedRest0_eq]
  dsimp only
  unfold given
  iintro ⟨⟨⟨⟨%K, HR⟩, Hc, Ha, Hb, Hs, Hr, Hi, Ht⟩, ⟨⟨%p, Hp⟩, ⟨%rr, Hrr⟩, Hred⟩, Hreg⟩, HO, ⟨⟨%d0, H0⟩, ⟨%d1, H1⟩, ⟨%d2, H2⟩, ⟨%d3, H3⟩, ⟨%d4, H4⟩, ⟨%d5, H5⟩⟩⟩
  ihave HO := (owes_out m c _ (O₀ c) (owed_first m c)) $$ HO
  ihave H0 := (stg_0 m c d0) $$ H0
  ihave H1 := (stg_1 m c d1) $$ H1
  ihave H2 := (stg_2 m c d2) $$ H2
  ihave H3 := (stg_3 m c d3) $$ H3
  ihave H4 := (stg_4 m c d4) $$ H4
  ihave H5 := (stg_5 m c d5) $$ H5
  iapply (body_run (inp m) K c _ ((dat m c).before 5 t0_0 d5) p rr) $$ [HR Hc Ha Hb Hs Hr Hi Ht Hp Hrr HO H0 H1 H2 H3 H4 H5]
  · isplitl [HR]; · iexact HR
    isplitl [HO]; · unfold ow; iexact HO
    isplitl [Hc]; · iexact Hc
    isplitl [Ha]; · iexact Ha
    isplitl [Hb]; · iexact Hb
    isplitl [Hs]; · iexact Hs
    isplitl [Hr]; · iexact Hr
    isplitl [Hi]; · iexact Hi
    isplitl [Ht]; · iexact Ht
    isplitl [H0 H1 H2 H3 H4]
    · unfold ins
      isplitl [H0]; · iexact H0
      isplitl [H1]; · iexact H1
      isplitl [H2]; · iexact H2
      isplitl [H3]; · iexact H3
      iexact H4
    isplitl [H5]; · iexact H5
    isplitl [Hp]; · iexact Hp
    iexact Hrr
  unfold bodyPost ins ow
  iintro ⟨⟨H0, H1, H2, H3, H4⟩, H5, Hp, Hrr, ⟨%W, HO⟩, Hb, Hs⟩
  isplitl [Hb Hs Hp Hrr Hred Hreg]
  · isplitl [Hb Hs]
    · isplitl [Hb] <;> iassumption
    isplitl [Hp Hrr Hred]
    · isplitl [Hp]; · iexact Hp
      isplitl [Hrr] <;> iassumption
    iexact Hreg
  isplitl [HO]; · iapply (owes_in m c t0_0.succ 0 (owed_last m c) W); iexact HO
  isplitl [H0]; · iapply (lft_0 m c) $$ H0
  isplitl [H1]; · iapply (lft_1 m c) $$ H1
  isplitl [H2]; · iapply (lft_2 m c) $$ H2
  isplitl [H3]; · iapply (lft_3 m c) $$ H3
  isplitl [H4]; · iapply (lft_4 m c) $$ H4
  iapply (lft_5 m c) $$ H5

end Cert.KernelIdeal.Hand

end
-- ==== Proof.Launch.lean ====
/- The launch: every cell's invariant allocated, the transfer cells dormant until the kernel is entered, the tokens and the
   credit dealt; and the region as the kit takes it. -/
module

public import proofs.«01_k».proof.Proof.Region

@[expose] public section

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The tokens -/

/-- The cells of the duties of destination `j`, on the device that waits. -/
def tsem (j : Fin 3) : Fin 9 → SemLoc sig :=
  ![.reg barS, .dma (enc (.rsS 0 j)), .dma (enc (.rsS 1 j)), .dma (enc (.rsR 0 (slot j))), .dma (enc (.rsR 1 (slot j))),
    .dma (enc (.agS 0 j)), .dma (enc (.agS 1 j)), .dma (enc (.agR 0 (slot j))), .dma (enc (.agR 1 (slot j)))]
/-- Their duties. -/
def tduty (j : Fin 3) : Fin 9 → Fin 4 := ![slot j, 0, 0, 0, 0, 0, 0, 0, 0]
/-- Whose cell the token a device pays with names: its own, or the destination's. -/
def towner (c : Fin 4) (j : Fin 3) : Fin 9 → Fin 4 := ![peer c j, c, c, peer c j, peer c j, c, c, peer c j, peer c j]
def tpayer (c : Fin 4) (j : Fin 3) : Fin 9 → Fin 4 := ![peer c j.rev, c, c, peer c j.rev, peer c j.rev, c, c, peer c j.rev, peer c j.rev]

theorem tk_inj : Function.Injective (fun jk : Fin 3 × Fin 9 => (tsem jk.1 jk.2, tduty jk.1 jk.2)) := by decide +kernel
theorem payer_owner : ∀ (c : Fin 4) (j : Fin 3) (k : Fin 9), tpayer (towner c j k) j k = c := by decide
theorem owner_payer : ∀ (c : Fin 4) (j : Fin 3) (k : Fin 9), towner (tpayer c j k) j k = c := by decide

/-- The tokens as dealt, each to the device that pays with it. -/
def deal : Dev nD × (Fin 3 × Fin 9) ≃ Dev nD × (Fin 3 × Fin 9) where
  toFun x := (towner x.1 x.2.1 x.2.2, x.2)
  invFun x := (tpayer x.1 x.2.1 x.2.2, x.2)
  left_inv x := Prod.ext (payer_owner x.1 x.2.1 x.2.2) rfl
  right_inv x := Prod.ext (owner_payer x.1 x.2.1 x.2.2) rfl

def tkEmb : Dev nD × (Fin 3 × Fin 9) ↪ GSem nD τ sig × ℕ × Fin 4 :=
  ⟨fun x => ((th x.1, tsem x.2.1 x.2.2), 0, tduty x.2.1 x.2.2), fun _ _ h =>
    Prod.ext (congrArg (fun t : GSem nD τ sig × ℕ × Fin 4 => t.1.1.1) h)
      (tk_inj (Prod.ext (congrArg (fun t : GSem nD τ sig × ℕ × Fin 4 => t.1.2) h) (congrArg (fun t : GSem nD τ sig × ℕ × Fin 4 => t.2.2) h)))⟩
def toks : Finset (GSem nD τ sig × ℕ × Fin 4) := Finset.univ.map tkEmb

/-- What device `c` pays with for destination `j`. -/
def dealt (c : Fin 4) (j : Fin 3) : sProp 𝕄 :=
  iprop(dutyTok ER (bc (peer c j)) 0 (slot j) ∗ dutyTok ER (kc c (.rsS 0 j)) 0 0 ∗ dutyTok ER (kc c (.rsS 1 j)) 0 0
    ∗ dutyTok ER (kc (peer c j) (.rsR 0 (slot j))) 0 0 ∗ dutyTok ER (kc (peer c j) (.rsR 1 (slot j))) 0 0
    ∗ dutyTok ER (kc c (.agS 0 j)) 0 0 ∗ dutyTok ER (kc c (.agS 1 j)) 0 0
    ∗ dutyTok ER (kc (peer c j) (.agR 0 (slot j))) 0 0 ∗ dutyTok ER (kc (peer c j) (.agR 1 (slot j))) 0 0)

theorem toks_dealt : bigSep toks (fun x => (dutyTok ER x.1 x.2.1 x.2.2 : sProp 𝕄))
    = bigSep Finset.univ fun c : Dev nD => iprop(dealt c 0 ∗ dealt c 1 ∗ dealt c 2) := by
  unfold toks
  rw [bigSep_map, bigSep_univ_equiv deal, bigSep_univ_prod]
  refine bigSep_congr fun c _ => ?_
  have h (j : Fin 3) : bigSep Finset.univ (fun k : Fin 9 => (dutyTok ER (tkEmb (deal (c, j, k))).1 (tkEmb (deal (c, j, k))).2.1 (tkEmb (deal (c, j, k))).2.2 : sProp 𝕄))
      = dealt c j := by
    rw [bigSep_univ_eq_bigSepL [(0 : Fin 9), 1, 2, 3, 4, 5, 6, 7, 8] (by decide) (by decide)]
    rfl
  rw [bigSep_univ_prod, bigSep_congr (Ψ := fun j => dealt c j) fun j _ => h j,
    bigSep_univ_eq_bigSepL [(0 : Fin 3), 1, 2] (by decide) (by decide)]
  rfl

/-! ## The cells -/

theorem osem_ne_bar : ∀ k : Fin 28, osem k ≠ .reg barS := by decide
theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- One dormant cell opened. -/
theorem open_one (I : Fin 4 → Inp F) (K : GSem nD τ sig → ℕ) (c : Dev nD) (i : Fin 28) :
    iprop(recs I K ∗ (openTok ER (th c, osem i) ∗ semVal (th c, osem i) 0))
      ⊢ (|={Set.univ}=> iprop(atPos ER (th c, osem i) 0 ∅ 0 ∗ reached ER (th c, osem i) 0) : sProp 𝕄) := by
  have h : recs I K ⊢ cellInv ER (sched I) (K (th c, osem i)) (th c, osem i) := by
    have := recs_k I K c (unidx i)
    rw [show kc c (unidx i) = (th c, osem i) from by show (th c, osem (idx (unidx i))) = _; rw [idx_unidx]] at this
    exact this
  iintro ⟨HR, Ho, Hs⟩
  iapply (Rounds.cell_open ER (sched I) (g := (th c, osem i)) (Set.mem_univ (K (th c, osem i))))
  isplitl [HR]; · iapply h $$ HR
  isplitl [Ho] <;> iassumption

def opens (c : Dev nD) : sProp 𝕄 := bigSep Finset.univ fun i : Fin 28 => openTok ER (th c, osem i)

theorem open_all (I : Fin 4 → Inp F) (K : GSem nD τ sig → ℕ) (c : Dev nD) :
    iprop(recs I K ∗ opens c ∗ Pipeline.ownSems0 osem c)
      ⊢ (|={Set.univ}=> bigSep Finset.univ fun i : Fin 28 => iprop(atPos ER (th c, osem i) 0 ∅ 0 ∗ reached ER (th c, osem i) 0) : sProp 𝕄) := by
  unfold opens Pipeline.ownSems0
  have h1 := bigSep_with_persistent (S := Finset.univ) (R := recs I K) (Φ := fun i : Fin 28 => iprop(openTok ER (th c, osem i) ∗ semVal (th c, osem i) 0))
    fun i _ => open_one I K c i
  iintro ⟨HR, Ho, Hs⟩
  iapply (bigSep_fupd (Finset.univ : Finset (Fin 28)) (fun i => iprop(atPos ER (th c, osem i) 0 ∅ 0 ∗ reached ER (th c, osem i) 0)))
  iapply h1
  isplitl [HR]; · iexact HR
  rw [bigSep_sep']
  isplitl [Ho] <;> iassumption

/-! ## The credit -/

/-- The transfer cells a device is paid on. -/
def paid : Fin 12 → KS :=
  ![.rsR 0 1, .rsR 1 1, .rsR 0 2, .rsR 1 2, .rsR 0 3, .rsR 1 3, .agR 0 1, .agR 1 1, .agR 0 2, .agR 1 2, .agR 0 3, .agR 1 3]

/-- The cells of the units a device owes at launch. -/
def owedCells (c : Fin 4) : List (GSem nD τ sig) := (owed4 c).map Prod.fst

theorem owedOf_count (g : GSem nD τ sig) : ∀ l : List (GSem nD τ sig × ℕ), (∀ p ∈ l, p.2 = amountOf p.1.2) →
    owedOf l g () = (l.map Prod.fst).count g * amountOf g.2
  | [], _ => (Nat.zero_mul _).symm
  | p :: l, h => by
    unfold owedOf
    rw [Pi.add_apply, Finsupp.add_apply, owedOf_count g l fun q hq => h q (List.mem_cons_of_mem _ hq), tallyAt_apply,
      List.map_cons, List.count_cons]
    by_cases hg : g = p.1
    · subst hg
      rw [if_pos ⟨rfl, rfl⟩, if_pos (beq_self_eq_true _), h p List.mem_cons_self, Nat.add_mul, Nat.one_mul]
    · rw [if_neg fun h' => hg h'.1, if_neg (by simpa using fun h' => hg h'.symm), Nat.add_zero, Nat.add_zero]

theorem owed4_amount (c : Fin 4) : ∀ p ∈ owed4 c, p.2 = amountOf p.1.2 := by
  intro p hp
  simp only [owed4, owed3, owed2, owed1, List.mem_cons, List.not_mem_nil, or_false] at hp
  rcases hp with rfl | rfl | rfl | rfl | rfl | rfl | rfl | rfl | rfl | rfl | rfl | rfl | rfl | rfl | rfl <;> rfl

theorem count_bar : ∀ c : Fin 4, (owedCells 0).count (bc c) + ((owedCells 1).count (bc c) + ((owedCells 2).count (bc c) + (owedCells 3).count (bc c))) = 3 := by
  decide +kernel
theorem count_paid : ∀ (c : Fin 4) (i : Fin 12), (owedCells 0).count (kc c (paid i)) + ((owedCells 1).count (kc c (paid i))
    + ((owedCells 2).count (kc c (paid i)) + (owedCells 3).count (kc c (paid i)))) = 1 := by
  decide +kernel

theorem owed_total (g : GSem nD τ sig) : (∑ d : Dev nD, O₀ d g ())
    = ((owedCells 0).count g + ((owedCells 1).count g + ((owedCells 2).count g + (owedCells 3).count g))) * amountOf g.2 := by
  have h (d : Dev nD) : O₀ d g () = (owedCells d).count g * amountOf g.2 := owedOf_count g _ (owed4_amount d)
  rw [Finset.sum_congr rfl fun d _ => h d, ← Finset.sum_mul]
  congr 1

theorem credit_of (g : GSem nD τ sig) (n : ℕ) (h : (∑ d : Dev nD, O₀ d g ()) = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

theorem credit_bar (c : Dev nD) : tallyOn (bc c) (launchCredit (Pipeline.owing O₀) 0 (bc c)) = (tallyAt (bc c) () 3 : CellTallies nD τ sig Unit) :=
  credit_of _ _ ((owed_total _).trans (by rw [count_bar]; rfl))
theorem credit_paid (c : Dev nD) (i : Fin 12) : tallyOn (kc c (paid i)) (launchCredit (Pipeline.owing O₀) 0 (kc c (paid i)))
    = (tallyAt (kc c (paid i)) () N : CellTallies nD τ sig Unit) :=
  credit_of _ _ ((owed_total _).trans (by rw [count_paid, Nat.one_mul]; rfl))

theorem paid_inj : Function.Injective (fun i : Fin 12 => (SemLoc.dma (enc (paid i)) : SemLoc sig)) := by decide
theorem bar_ne_paid : ∀ i : Fin 12, (SemLoc.dma (enc (paid i)) : SemLoc sig) ≠ SemLoc.reg barS := by decide
theorem bar_not_paid : (SemLoc.reg barS : SemLoc sig) ∉ Finset.univ.map (⟨_, paid_inj⟩ : Fin 12 ↪ SemLoc sig) := by
  intro h
  obtain ⟨i, -, h⟩ := Finset.mem_map.mp h
  exact absurd h (bar_ne_paid i)

def credits (c : Dev nD) : sProp 𝕄 := bigSep Finset.univ fun i : Fin 12 => cred (tallyAt (kc c (paid i)) () N)

theorem creds (c : Dev nD) : (Pipeline.launchCred O₀ c : sProp 𝕄) ⊢ iprop(cred (tallyAt (bc c) () 3) ∗ credits c) := by
  unfold Pipeline.launchCred credits
  refine (bigSep_subset (t := insert (SemLoc.reg barS) (Finset.univ.map (⟨_, paid_inj⟩ : Fin 12 ↪ SemLoc sig))) (Finset.subset_univ _)).trans ?_
  rw [bigSep_insert bar_not_paid, credit_bar, bigSep_map]
  refine Idealize.SL.BI.sep_mono (BI.Entails.refl _) (Entails.of_eq (bigSep_congr fun i _ => ?_))
  exact congrArg cred (credit_paid c i)

/-- The kernel's semaphores one by one. -/
theorem list28 (Φ : Fin 28 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27) :=
  bigSep_univ_eq_bigSepL [(0 : Fin 28), 1, 2, 3, 4, 5, 6, 7, 8, 9, 10, 11, 12, 13, 14, 15, 16, 17, 18, 19, 20, 21, 22, 23, 24, 25, 26, 27] (by decide) (by decide) Φ

theorem list12 (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [(0 : Fin 12), 1, 2, 3, 4, 5, 6, 7, 8, 9, 10, 11] (by decide) (by decide) Φ

/-! ## Entering the kernel -/

/-- What a device carries from the launch to the kernel. -/
def Tk (c : Dev nD) : sProp 𝕄 :=
  iprop((∃ K, recs (inp m) K) ∗ atPos ER (bc c) 0 ∅ 0 ∗ opens c ∗ (dealt c 0 ∗ dealt c 1 ∗ dealt c 2)
    ∗ cred (tallyAt (bc c) () 3) ∗ credits c)

theorem sems_own (c : Dev nD) : (sems0 c : sProp 𝕄) ⊢ Pipeline.ownSems0 osem c := by
  unfold Pipeline.ownSems0
  rw [list28]
  exact BI.Entails.refl _

theorem hopen (c : Dev nD) : iprop(Tk m c ∗ Pipeline.ownSems0 osem c ∗ levAts L lv) ⊢ (|={Set.univ}=> given m c : sProp 𝕄) := by
  unfold Tk dealt
  iintro ⟨⟨⟨%K, #HR⟩, Ha, Ho, ⟨⟨B0, T00, T01, T02, T03, T04, T05, T06, T07⟩, ⟨B1, T10, T11, T12, T13, T14, T15, T16, T17⟩, ⟨B2, T20, T21, T22, T23, T24, T25, T26, T27⟩⟩, Hc, Hcr⟩, Hs, -⟩
  imod (open_all (inp m) K c) $$ [Ho Hs] with H
  · isplitr; · iexact HR
    isplitl [Ho] <;> iassumption
  ihave H := (Entails.of_eq (list28 (fun i : Fin 28 => iprop(atPos ER (th c, osem i) 0 ∅ 0 ∗ reached ER (th c, osem i) 0)))) $$ H
  icases H with ⟨⟨ArsS00, #RrsS00⟩, ⟨ArsS01, #RrsS01⟩, ⟨ArsS02, #RrsS02⟩, ⟨ArsS10, #RrsS10⟩, ⟨ArsS11, #RrsS11⟩, ⟨ArsS12, #RrsS12⟩, ⟨ArsR00, #RrsR00⟩, ⟨ArsR01, #RrsR01⟩, ⟨ArsR02, #RrsR02⟩, ⟨ArsR03, #RrsR03⟩, ⟨ArsR10, #RrsR10⟩, ⟨ArsR11, #RrsR11⟩, ⟨ArsR12, #RrsR12⟩, ⟨ArsR13, #RrsR13⟩, ⟨AagS00, #RagS00⟩, ⟨AagS01, #RagS01⟩, ⟨AagS02, #RagS02⟩, ⟨AagS10, #RagS10⟩, ⟨AagS11, #RagS11⟩, ⟨AagS12, #RagS12⟩, ⟨AagR00, #RagR00⟩, ⟨AagR01, #RagR01⟩, ⟨AagR02, #RagR02⟩, ⟨AagR03, #RagR03⟩, ⟨AagR10, #RagR10⟩, ⟨AagR11, #RagR11⟩, ⟨AagR12, #RagR12⟩, ⟨AagR13, #RagR13⟩⟩
  unfold credits
  ihave Hcr := (Entails.of_eq (list12 (fun i : Fin 12 => cred (tallyAt (kc c (paid i)) () N)))) $$ Hcr
  icases Hcr with ⟨C0, C1, C2, C3, C4, C5, C6, C7, C8, C9, C10, C11⟩
  imodintro
  unfold given barToks sendPacks recvPacks idle told rsPack agPack fly
  isplitr; · iexists K; iexact HR
  isplitl [Hc]; · iexact Hc
  isplitl [Ha]; · iexact Ha
  isplitl [B0 B1 B2]
  · isplitl [B0]; · iexact B0
    isplitl [B1] <;> iassumption
  isplitl [T00 T02 ArsS00 T01 T03 ArsS10 T10 T12 ArsS01 T11 T13 ArsS11 T20 T22 ArsS02 T21 T23 ArsS12 T04 T06 AagS00 T05 T07 AagS10 T14 T16 AagS01 T15 T17 AagS11 T24 T26 AagS02 T25 T27 AagS12]
  · isplitl [T00 T02 ArsS00]
    · isplitl [T00]; · iexact T00
      isplitl [T02]; · iexact T02
      isplitl [ArsS00]; · iexact ArsS00
      iexact RrsS00
    isplitl [T01 T03 ArsS10]
    · isplitl [T01]; · iexact T01
      isplitl [T03]; · iexact T03
      isplitl [ArsS10]; · iexact ArsS10
      iexact RrsS10
    isplitl [T10 T12 ArsS01]
    · isplitl [T10]; · iexact T10
      isplitl [T12]; · iexact T12
      isplitl [ArsS01]; · iexact ArsS01
      iexact RrsS01
    isplitl [T11 T13 ArsS11]
    · isplitl [T11]; · iexact T11
      isplitl [T13]; · iexact T13
      isplitl [ArsS11]; · iexact ArsS11
      iexact RrsS11
    isplitl [T20 T22 ArsS02]
    · isplitl [T20]; · iexact T20
      isplitl [T22]; · iexact T22
      isplitl [ArsS02]; · iexact ArsS02
      iexact RrsS02
    isplitl [T21 T23 ArsS12]
    · isplitl [T21]; · iexact T21
      isplitl [T23]; · iexact T23
      isplitl [ArsS12]; · iexact ArsS12
      iexact RrsS12
    isplitl [T04 T06 AagS00]
    · isplitl [T04]; · iexact T04
      isplitl [T06]; · iexact T06
      isplitl [AagS00]; · iexact AagS00
      iexact RagS00
    isplitl [T05 T07 AagS10]
    · isplitl [T05]; · iexact T05
      isplitl [T07]; · iexact T07
      isplitl [AagS10]; · iexact AagS10
      iexact RagS10
    isplitl [T14 T16 AagS01]
    · isplitl [T14]; · iexact T14
      isplitl [T16]; · iexact T16
      isplitl [AagS01]; · iexact AagS01
      iexact RagS01
    isplitl [T15 T17 AagS11]
    · isplitl [T15]; · iexact T15
      isplitl [T17]; · iexact T17
      isplitl [AagS11]; · iexact AagS11
      iexact RagS11
    isplitl [T24 T26 AagS02]
    · isplitl [T24]; · iexact T24
      isplitl [T26]; · iexact T26
      isplitl [AagS02]; · iexact AagS02
      iexact RagS02
    isplitl [T25]; · iexact T25
    isplitl [T27]; · iexact T27
    isplitl [AagS12]; · iexact AagS12
    iexact RagS12
  isplitl [C0 ArsR01 C1 ArsR11 C2 ArsR02 C3 ArsR12 C4 ArsR03 C5 ArsR13 C6 AagR01 C7 AagR11 C8 AagR02 C9 AagR12 C10 AagR03 C11 AagR13]
  · isplitl [C0 ArsR01]
    · isplitl [C0]; · iexact C0
      iexact ArsR01
    isplitl [C1 ArsR11]
    · isplitl [C1]; · iexact C1
      iexact ArsR11
    isplitl [C2 ArsR02]
    · isplitl [C2]; · iexact C2
      iexact ArsR02
    isplitl [C3 ArsR12]
    · isplitl [C3]; · iexact C3
      iexact ArsR12
    isplitl [C4 ArsR03]
    · isplitl [C4]; · iexact C4
      iexact ArsR03
    isplitl [C5 ArsR13]
    · isplitl [C5]; · iexact C5
      iexact ArsR13
    isplitl [C6 AagR01]
    · isplitl [C6]; · iexact C6
      iexact AagR01
    isplitl [C7 AagR11]
    · isplitl [C7]; · iexact C7
      iexact AagR11
    isplitl [C8 AagR02]
    · isplitl [C8]; · iexact C8
      iexact AagR02
    isplitl [C9 AagR12]
    · isplitl [C9]; · iexact C9
      iexact AagR12
    isplitl [C10 AagR03]
    · isplitl [C10]; · iexact C10
      iexact AagR03
    isplitl [C11]; · iexact C11
    iexact AagR13
  isplitl [ArsR00 ArsR10 AagR00 AagR10]
  · isplitl [ArsR00]; · iexact ArsR00
    isplitl [ArsR10]; · iexact ArsR10
    isplitl [AagR00]; · iexact AagR00
    iexact AagR10
  isplitr; · iexact RrsR01
  isplitr; · iexact RrsR11
  isplitr; · iexact RrsR02
  isplitr; · iexact RrsR12
  isplitr; · iexact RrsR03
  isplitr; · iexact RrsR13
  isplitr; · iexact RagR01
  isplitr; · iexact RagR11
  isplitr; · iexact RagR02
  isplitr; · iexact RagR12
  isplitr; · iexact RagR03
  iexact RagR13

end Cert.KernelIdeal.Hand

end
-- ==== Proof.Run.lean ====
/- The run of the whole program: the region's record, what the devices start from, and what every final state holds. -/
module

public import proofs.«01_k».proof.Proof.Launch

@[expose] public section

noncomputable section

namespace Cert.KernelIdeal.Hand

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The region -/

def pdats : (p : Fin 1) → (c : Dev nD) → Dat τ (Elt F) Unit ℕ UU ℕ (Pipeline.pin (pcfgs (F := F)) adm p) c
  | 0 => dat m
  | ⟨_ + 1, h⟩ => absurd h (Nat.not_lt.2 (Nat.le_add_left _ _))

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem held_none (c : Dev nD) (W : Valuation τ sig (Elt F)) : (StableHlo.held (c.tc : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r)
      ∗ StableHlo.held (c.tc : Thread nD τ) ∅ (V1 m c) ∗ given m c) ⊢ (pdats m 0 c).Φ 0 := by
  rw [show (pdats m 0 c).Φ 0 = iprop(given m c ∗ Pipeline.scopedRest spec0 c ∗ ∃ r, prngReg c r) from rfl]
  iintro ⟨Hs, Hp, -, Hg⟩
  isplitl [Hg]; · iexact Hg
  isplitl [Hs]; · iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V2 m (outs m) c) ∗ Pipeline.ownSems0 osem c ∗ semVal (bc c) 0) := by
  rw [show (pdats m 0 c).Φ (Fin.last _) = iprop((semVal (bc c) 0 ∗ sems0 c) ∗ Pipeline.scopedRest spec0 c ∗ ∃ r, prngReg c r) from rfl, held_none]
  iintro ⟨⟨Hb, Hs⟩, Hr, Hp⟩
  isplitl [Hr]; · iexact Hr
  isplitl [Hp]; · iexact Hp
  isplitr; · iempintro
  isplitl [Hs]; · iapply (sems_own c) $$ Hs
  iexact Hb

theorem cut_owed (c : Dev nD) (t : Fin ((Pipeline.pin (pcfgs (F := F)) adm 0).N + 1)) (g : GSem nD τ sig) (i : Unit)
    (h : 0 < (pdats m 0 c).owed t g i) : i ∈ L g ∧ (0 : ℕ) < lv g i := by
  have e : (pdats m 0 c).owed t = if t.val = 0 then O₀ c else 0 := rfl
  rw [e] at h
  split at h
  · obtain ⟨n, hn⟩ := owedOf_pos h
    have ha := owed4_above c _ hn
    exact ⟨by unfold L; rw [if_pos ha.1]; exact Finset.mem_singleton_self _, ha.2⟩
  · exact absurd h (Nat.lt_irrefl 0)

theorem stage_lv : ∀ (w : Fin 6) (s : Fin (spec0 w).nbuf), dec ((spec0 w).sem s) = none := by decide

theorem share_full (c : Dev nD) (w : Fin cfg0.W) : (dat m c).share w = fullShare := by
  unfold Dat.share; split <;> rfl

theorem arr_first (c : Dev nD) (w : Fin cfg0.W) : (dat m c).arrAt w 0 = V1 m c (Proc.devRef .tc (Pipeline.arrRef spec0 w)) := rfl

theorem V2_result (c : Dev nD) : V2 m (outs m) c main_v17 = OUT (inp m) :=
  Function.update_self (β := fun b : DevRef τ sig => b.ty.Contents (Elt F)) _ _ (V1 m c)

theorem arr_last (c : Dev nD) : ∀ w : Fin cfg0.W, (dat m c).arrAt w cfg0.N = V2 m (outs m) c (Proc.devRef .tc (Pipeline.arrRef spec0 w))
  | 0 => ((dat m c).arrAt_in 0 rfl _).trans (V2_of m (outs m) c main_arg0 (by decide)).symm
  | 1 => ((dat m c).arrAt_in 1 rfl _).trans (V2_of m (outs m) c main_arg1 (by decide)).symm
  | 2 => ((dat m c).arrAt_in 2 rfl _).trans (V2_of m (outs m) c main_v10 (by decide)).symm
  | 3 => ((dat m c).arrAt_in 3 rfl _).trans (V2_of m (outs m) c main_v16 (by decide)).symm
  | 4 => ((dat m c).arrAt_in 4 rfl _).trans (V2_of m (outs m) c main_arg4 (by decide)).symm
  | 5 => (after_5 m c).trans (V2_result m c).symm
  | ⟨_ + 6, h⟩ => absurd h (Nat.not_lt.2 (Nat.le_add_left _ _))

/-- The buffers the region does not stage. -/
abbrev others : Finset (DevRef τ sig) := Pipeline.ucRefs τ sig \ Pipeline.arrRefs (τ := τ) spec0

theorem arrRefs_sub : Pipeline.arrRefs (τ := τ) spec0 ⊆ Pipeline.ucRefs τ sig := by decide +kernel

theorem v17_mem : (Proc.devRef .tc main_v17 : DevRef τ sig) ∈ Pipeline.arrRefs (τ := τ) spec0 := by decide +kernel

theorem others_kept (c : Dev nD) (b : DevRef τ sig) (hb : b ∈ others) : V2 m (outs m) c b = V1 m c b :=
  Function.update_of_ne (fun h => (Finset.mem_sdiff.mp hb).2 (by rw [h]; exact v17_mem)) _ _

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) kitP rfl (fun c => (body_ob m c).loose)
    (fun _ => 0) O₀ (fun c => (owed_zero m c).trans (zero_add _).symm) (owed_last m) (fun _ => rfl) (share_full m)
    (V1 m) (V2 m (outs m)) (fun c b hb => others_kept m c b (Finset.mem_sdiff.mp hb).1)
    (Tk m) (fun c => semVal (bc c) 0) (given m) (fun c => semVal (bc c) 0) (hopen m) (hin m) (hout m)
    (fun c => by iintro H; imodintro; iexact H)
    (fun _ => 0)
    ⟨fun c w s => by rw [L_tc]; exact Finset.mem_singleton_self _,
      fun c w s => by unfold lv; dsimp only; rw [stage_lv w s], fun c t g i h => cut_owed m c t g i h⟩
    (fun _ => iprop(emp))
    (fun c w => arr_first m c w) (fun c w => arr_last m c w)

/-! ## Between the items -/

/-- What rides beside the buffers: before the kernel, what it needs; after it, the barrier's counter at zero. -/
def E : Fin 2 → Dev nD → sProp 𝕄
  | 0 => fun c => iprop((∃ r, prngReg c r) ∗ Tk m c ∗ ∃ W, owes (th c) (O₀ c) W)
  | 1 => fun c => iprop(semVal (bc c) 0 ∗ ∃ W, owes (th c) (0 : CellTallies nD τ sig Unit) W)
  | ⟨_ + 2, h⟩ => absurd h (Nat.not_lt.2 (Nat.le_add_left _ _))

theorem reg_pre (c : Dev nD) : iprop(StableHlo.held (c : Thread nD τ) (Pipeline.ucRefs τ sig) (V1 m c) ∗ E m 0 c) ⊢ (reg m).pre c := by
  show iprop(StableHlo.held (c : Thread nD τ) (Pipeline.ucRefs τ sig) (V1 m c) ∗ E m 0 c) ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk m c ∗ ∃ Wd, owes (c : Thread nD τ) (0 + O₀ c) Wd)
  rw [StableHlo.held_sub_split _ arrRefs_sub (V1 m c), zero_add]
  show iprop((StableHlo.held (c.tc : Thread nD τ) (Pipeline.arrRefs (τ := τ) spec0) (V1 m c) ∗ StableHlo.held (c.tc : Thread nD τ) others (V1 m c))
    ∗ (∃ r, prngReg c r) ∗ Tk m c ∗ ∃ W, owes (th c) (O₀ c) W) ⊢ _
  iintro ⟨⟨Ha, Ho⟩, Hp, HT, HO⟩
  isplitl [Ha]; · iexact Ha
  isplitl [Hp]; · iexact Hp
  isplitl [Ho]
  · isplitl [Ho]; · iexact Ho
    iempintro
  isplitl [HT]; · iexact HT
  iexact HO

theorem reg_post (c : Dev nD) : (reg m).post c ⊢ iprop(StableHlo.held (c : Thread nD τ) (Pipeline.ucRefs τ sig) (V2 m (outs m) c) ∗ E m 1 c) := by
  show iprop(StableHlo.held (c.tc : Thread nD τ) (Pipeline.arrRefs (τ := τ) spec0) (V2 m (outs m) c) ∗ (∃ r, prngReg c r)
    ∗ (StableHlo.held (c.tc : Thread nD τ) others (V2 m (outs m) c) ∗ emp) ∗ semVal (bc c) 0 ∗ ∃ Wd, owes (c : Thread nD τ) (0 : CellTallies nD τ sig Unit) Wd)
    ⊢ iprop(StableHlo.held (c : Thread nD τ) (Pipeline.ucRefs τ sig) (V2 m (outs m) c) ∗ E m 1 c)
  rw [StableHlo.held_sub_split _ arrRefs_sub (V2 m (outs m) c)]
  show _ ⊢ iprop((StableHlo.held (c.tc : Thread nD τ) (Pipeline.arrRefs (τ := τ) spec0) (V2 m (outs m) c) ∗ StableHlo.held (c.tc : Thread nD τ) others (V2 m (outs m) c))
    ∗ semVal (bc c) 0 ∗ ∃ W, owes (th c) (0 : CellTallies nD τ sig Unit) W)
  iintro ⟨Ha, -, ⟨Ho, -⟩, Hb, HO⟩
  isplitl [Ha Ho]
  · isplitl [Ha] <;> iassumption
  isplitl [Hb]; · iexact Hb
  iexact HO

/-! ## The launch -/

/-- The launch element: the staging cells' rounds beside the kernel's own. -/
def u₀ : UU :=
  (initOf (Pipeline.cells (Pipeline.pin (pcfgs (F := F)) adm) cellOf_inj) (Pipeline.launchToks (Pipeline.pin (pcfgs (F := F)) adm) cellOf_inj),
    launchOf barCells scCells toks)

/-- All of a resource on device 0. -/
def onFirst (X : sProp 𝕄) (c : Dev nD) : sProp 𝕄 := if c = 0 then X else iprop(emp)
theorem bigSep_onFirst (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

def G : Dev nD → sProp 𝕄 := onFirst (BI.own (ER (launchOf barCells scCells toks)))

theorem unscopedSems0_eq (c : Dev nD) : (unscopedSems0 c : sProp 𝕄) = semVal (bc c) 0 := by
  unfold unscopedSems0
  rw [show (Finset.univ.filter fun sm : SemLoc sig => ¬ sm.isScoped .tc) = {SemLoc.reg barS} from by decide, BI.bigSep_singleton]

/-- What a device holds at launch that is not of the protocol's making. -/
def bundle (c : Dev nD) : sProp 𝕄 :=
  iprop((cred (tallyAt (bc c) () 3) ∗ credits c) ∗ owes (th c) (O₀ c) ∅ ∗ ∃ r, prngReg c r)

theorem E_intro (K : GSem nD τ sig → ℕ) (c : Dev nD) :
    iprop(recs (inp m) K ∗ (atPos ER (bc c) 0 ∅ 0 ∗ opens c ∗ (dealt c 0 ∗ dealt c 1 ∗ dealt c 2)) ∗ bundle c) ⊢ E m 0 c := by
  show _ ⊢ iprop((∃ r, prngReg c r) ∗ Tk m c ∗ ∃ W, owes (th c) (O₀ c) W)
  unfold bundle Tk
  iintro ⟨#HR, ⟨Ha, Ho, Hd⟩, ⟨Hc, Hcr⟩, HO, Hp⟩
  isplitl [Hp]; · iexact Hp
  isplitr [HO]
  · isplitr; · iexists K; iexact HR
    isplitl [Ha]; · iexact Ha
    isplitl [Ho]; · iexact Ho
    isplitl [Hd]; · iexact Hd
    isplitl [Hc]; · iexact Hc
    iexact Hcr
  iexists ∅; iexact HO

theorem init :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E m 0) : sProp 𝕄) := by
  have hcore (c : Dev nD) : iprop(unscopedSems0 c ∗ owes (c : Thread nD τ) (O₀ c) ∅ ∗ Pipeline.launchCred O₀ c ∗ prngReg c (ρ c) ∗ G c)
      ⊢ (iprop(bundle c ∗ (semVal (bc c) 0 ∗ G c)) : sProp 𝕄) := by
    rw [unscopedSems0_eq]
    unfold bundle
    iintro ⟨Hus, HO, Hcr, Hp, HG⟩
    ihave Hc := (creds (F := F) c) $$ Hcr
    isplitl [Hc HO Hp]
    · isplitl [Hc]; · iexact Hc
      isplitl [HO]; · iexact HO
      iexists (ρ c); iexact Hp
    isplitl [Hus] <;> iassumption
  have hv : bigSep Finset.univ (fun c : Dev nD => (semVal (bc c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (bc c) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄)) ⊢ bigSep Finset.univ (fun c : Dev nD => (opens c : sProp 𝕄)) :=
    Entails.of_eq (by rw [bigSep_map, bigSep_univ_prod]; rfl)
  have hall : bigSep Finset.univ (fun c : Dev nD => iprop(unscopedSems0 c ∗ owes (c : Thread nD τ) (O₀ c) ∅ ∗ Pipeline.launchCred O₀ c ∗ prngReg c (ρ c) ∗ G c))
      ⊢ iprop((bigSep Finset.univ fun c : Dev nD => (bundle c : sProp 𝕄)) ∗ (bigSep Finset.univ fun c : Dev nD => (semVal (bc c) 0 : sProp 𝕄)) ∗ bigSep Finset.univ (G (F := F))) := by
    rw [← bigSep_sep', ← bigSep_sep']
    exact bigSep_mono fun c _ => hcore c
  have hu : bigSep Finset.univ (G (F := F)) ⊢ BI.own (ER (launchOf barCells scCells toks)) :=
    Entails.of_eq (bigSep_onFirst (F := F) (BI.own (ER (launchOf barCells scCells toks))))
  have hend (K : GSem nD τ sig → ℕ) : iprop(recs (inp m) K ∗ bigSep Finset.univ fun c : Dev nD =>
        iprop((atPos ER (bc c) 0 ∅ 0 ∗ opens c ∗ (dealt c 0 ∗ dealt c 1 ∗ dealt c 2)) ∗ bundle c)) ⊢ bigSep Finset.univ (E m 0) :=
    bigSep_with_persistent (S := Finset.univ) (R := recs (inp m) K)
      (Φ := fun c : Dev nD => iprop((atPos ER (bc c) 0 ∅ 0 ∗ opens c ∗ (dealt c 0 ∗ dealt c 1 ∗ dealt c 2)) ∗ bundle c)) fun c _ => E_intro m K c
  iintro ⟨H, #Hla⟩
  ihave H' := hall $$ H
  icases H' with ⟨HB, Hv, HG⟩
  ihave Hu := hu $$ HG
  imod (Rounds.fund_launch ER (sched (inp m)) disjoint_cells (fun g _ h => h) toks) $$ [Hv Hu] with ⟨%K, -, #Hinv, #Hr, Hat, Hopen, Htok⟩
  · isplitl [Hv]
    · iapply hv $$ Hv
    · iexact Hu
  imodintro
  iapply (hend K)
  isplitr
  · unfold recs
    isplitr; · iexact Hinv
    isplitr; · iexact Hr
    iexact Hla
  rw [bigSep_sep', bigSep_sep', bigSep_sep']
  isplitr [HB]
  · isplitl [Hat]; · iapply hat $$ Hat
    isplitl [Hopen]; · iapply hop $$ Hopen
    iapply (Entails.of_eq (toks_dealt (F := F))) $$ Htok
  iexact HB

theorem unscoped_eq : ∀ sm : SemLoc sig, sm.isScoped .tc = false → sm = .reg barS := by decide

set_option backward.isDefEq.respectTransparency.types false in
/-- THE RUN: it terminates; on every device the result is the function `OUT` of what the devices staged, the arguments
    are as launched, and every semaphore counter is zero. -/
theorem run_main : θ_run defs (onTc (τ := τ) (main (F := F))) ⟨m, fun _ => 0, ρ⟩ (fun r => (∀ c : Dev nD,
      r.2.mem ((c.tc : Thread nD τ).loc main_v17) = OUT (inp m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) := by
  refine Pipeline.θ_run_regions_kit_dev_sems (pcfgs (F := F)) adm (pdats m) () cellOf_inj EP defs₀ 𝒱₀ L lv m ρ main
    (segs m 𝒱₀ L lv (E m) () (pdats m) (reg m))
    (fun c Q => by
      rewrite [main_chain c, Pipeline.Seg.run_eq_chain,
        show (segs m 𝒱₀ L lv (E m) () (pdats m) (reg m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne G u₀
    (by
      unfold u₀ G
      iintro Hu
      ihave H := (ownU_pair _ _) $$ Hu
      icases H with ⟨HP, HX⟩
      imodintro
      isplitl [HP]; · iexact HP
      rw [bigSep_onFirst]; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (V2 m (outs m) c) ∗ semVal (bc c) 0))
    (hch := fun c => ⟨.rfl, reg_pre m c, (reg_post m c).trans ?_⟩)
    (hinit := ?_)
    (QY := fun c s => (s.mem ((c.tc : Thread nD τ).loc main_v17) = OUT (inp m)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)) ∧ s.sem (bc c) = 0)
    (hfin := fun c s' => ?_)
    (hQ := fun s h hs => ⟨fun c => (h c).1, sem_eq_zero hs fun c sm hsm => by
      obtain rfl := unscoped_eq sm hsm
      exact (h c).2⟩)
  · show iprop(StableHlo.held (c : Thread nD τ) (Pipeline.ucRefs τ sig) (V2 m (outs m) c) ∗ semVal (bc c) 0 ∗ ∃ W, owes (th c) (0 : CellTallies nD τ sig Unit) W) ⊢ _
    iintro ⟨Hh, Hb, HO⟩
    isplitr [HO]
    · isplitl [Hh] <;> iassumption
    iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c)) : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (init m ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (V2 m (outs m) c) s') $$ [Hh HSI]
    · isplitl [Hh] <;> iassumption
    icases Hr with ⟨%h, HSI⟩
    imodintro
    isplitr
    · ipureintro
      exact ⟨⟨(h (Proc.devRef .tc main_v17) (Finset.mem_filter.mpr ⟨StableHlo.devRef_mem_tcRefs main_v17, by decide⟩)).trans (V2_result m c),
        (h (Proc.devRef .tc main_arg0) (Finset.mem_filter.mpr ⟨StableHlo.devRef_mem_tcRefs main_arg0, by decide⟩)).trans (V2_main_arg0 m (outs m) c),
        (h (Proc.devRef .tc main_arg1) (Finset.mem_filter.mpr ⟨StableHlo.devRef_mem_tcRefs main_arg1, by decide⟩)).trans (V2_main_arg1 m (outs m) c),
        (h (Proc.devRef .tc main_arg2) (Finset.mem_filter.mpr ⟨StableHlo.devRef_mem_tcRefs main_arg2, by decide⟩)).trans (V2_main_arg2 m (outs m) c),
        (h (Proc.devRef .tc main_arg3) (Finset.mem_filter.mpr ⟨StableHlo.devRef_mem_tcRefs main_arg3, by decide⟩)).trans (V2_main_arg3 m (outs m) c),
        (h (Proc.devRef .tc main_arg4) (Finset.mem_filter.mpr ⟨StableHlo.devRef_mem_tcRefs main_arg4, by decide⟩)).trans (V2_main_arg4 m (outs m) c)⟩,
        by simpa using hb⟩
    · iexact HSI

end Cert.KernelIdeal.Hand

end
-- ==== Proof.Frames.lean ====
/- The frames: each program terminates, leaves its arguments as they were and every semaphore at zero. The kernel has one
   text at machine floats and at extended reals, and its run is proved for any floats. -/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The two readings have the same kernel bodies. -/
theorem bodies {F : FTy → Type} [FloatOps F] : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- And the same tables of them. -/
theorem tables {F : FTy → Type} [FloatOps F] : Cert.Kernel.defs (F := F) = Cert.KernelIdeal.defs (F := F) :=
  congrArg (Pipeline.defs (Cert.KernelIdeal.pcfgs (F := F))) bodies

theorem frame_kernel : Cert.quiescent_Kernel := fun m ρ _ => by
  rw [tables]
  exact (θ_run Cert.KernelIdeal.defs _ _).mono (fun _ h => ⟨fun c => (h.1 c).2, h.2⟩) (Cert.KernelIdeal.Hand.run_main (F := Bits) m ρ)

theorem frame_kernelIdeal : Cert.quiescent_KernelIdeal := fun m ρ _ =>
  (θ_run Cert.KernelIdeal.defs _ _).mono (fun _ h => ⟨fun c => (h.1 c).2, h.2⟩) (Cert.KernelIdeal.Hand.run_main (F := Ideal) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Softmax.lean ====
/- The mathematics both programs share: the masked scores, the quotient that normalizes the exponentials, and the sum
   over the heads cut by device. Nothing here mentions a program; arrays are functions of their coordinates. -/
module

public import Idealize.ShloMosaic.PureOps.Ideal.Laws
public import Idealize.ShloMosaic.Lib.IdealHost

@[expose] public section

noncomputable section

namespace Cert.Attention

open Idealize.ShloMosaic
open scoped BigOperators

/-- An extended real that is a real number. -/
def Real? (x : EReal) : Prop := ∃ r : ℝ, x = (r : EReal)

theorem Real?.mul {x y : EReal} (hx : Real? x) (hy : Real? y) : Real? (x * y) := by
  obtain ⟨a, rfl⟩ := hx
  obtain ⟨b, rfl⟩ := hy
  exact ⟨a * b, (EReal.coe_mul a b).symm⟩

theorem Real?.sum {ι : Type} (s : Finset ι) {f : ι → EReal} (h : ∀ i, Real? (f i)) : Real? (∑ i ∈ s, f i) := by
  classical
  induction s using Finset.induction_on with
  | empty => exact ⟨0, by simp⟩
  | insert a t ha ih =>
    obtain ⟨p, hp⟩ := h a
    obtain ⟨q, hq⟩ := ih
    exact ⟨p + q, by rw [Finset.sum_insert ha, hp, hq, EReal.coe_add]⟩

/-- The scale of the scores is a real number. -/
theorem real_scale : Real? (Ideal.ofBits .f32 0x3E000000#32) := by
  simp only [Ideal.ofBits, Ideal.ieee]
  rw [if_neg (by decide), if_neg (by decide)]
  exact ⟨_, rfl⟩

/-- So is the score of a position that is not seen. -/
theorem real_unseen : Real? (Ideal.ofBits .f32 0xCE6E6B28#32) := by
  simp only [Ideal.ofBits, Ideal.ieee]
  rw [if_neg (by decide), if_neg (by decide)]
  exact ⟨_, rfl⟩

/-- The pattern of the least value is the least extended real. -/
theorem ofBits_least : Ideal.ofBits .f32 0xFF800000#32 = ⊥ := by
  simp [Ideal.ofBits, Ideal.ieee]

/-- The masked score of query `i` at key `j`, for one head of one batch entry. -/
def score (x : Fin 2 → Fin 256 → Fin 512 → EReal) (wq : Fin 512 → Fin 1024 → EReal)
    (k : Fin 2 → Fin 256 → Fin 16 → Fin 64 → EReal) (b : Fin 2) (h : Fin 16) (i j : Fin 256) : EReal :=
  if j.val / 64 ≤ i.val / 64 then
    (∑ d : Fin 64, (∑ e : Fin 512, x b i e * wq e ⟨h.val * 64 + d.val, by omega⟩) * k b j h d)
      * Ideal.ofBits .f32 0x3E000000#32
  else Ideal.ofBits .f32 0xCE6E6B28#32

theorem score_real {x : Fin 2 → Fin 256 → Fin 512 → EReal} {wq : Fin 512 → Fin 1024 → EReal}
    {k : Fin 2 → Fin 256 → Fin 16 → Fin 64 → EReal} (hx : ∀ b i e, Real? (x b i e)) (hw : ∀ e c, Real? (wq e c))
    (hk : ∀ b j h d, Real? (k b j h d)) (b : Fin 2) (h : Fin 16) (i j : Fin 256) : Real? (score x wq k b h i j) := by
  unfold score
  split
  · exact (Real?.sum _ fun d => (Real?.sum _ fun e => (hx ..).mul (hw ..)).mul (hk ..)).mul real_scale
  · exact real_unseen

/-- The greatest of finitely many reals, taken from the least extended real up, is a real. -/
theorem max_real {n : ℕ} {s : Fin (n + 1) → EReal} (h : ∀ i, Real? (s i)) :
    Real? (Finset.fold max ⊥ (fun i => s i) Finset.univ) := by
  have h1 : Finset.fold max ⊥ (fun i => s i) Finset.univ < ⊤ :=
    Finset.fold_max_lt _ |>.2 ⟨bot_lt_top, fun i _ => by obtain ⟨r, hr⟩ := h i; rw [hr]; exact EReal.coe_lt_top r⟩
  have h2 : ⊥ < Finset.fold max ⊥ (fun i => s i) Finset.univ :=
    Finset.lt_fold_max _ |>.2 (.inr ⟨0, Finset.mem_univ _, by obtain ⟨r, hr⟩ := h 0; rw [hr]; exact EReal.bot_lt_coe r⟩)
  exact ⟨_, (EReal.coe_toReal h1.ne h2.ne').symm⟩

/-- A nonnegative real factor goes through a sum of extended reals. -/
theorem sum_mul_real {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a t ha ih =>
    rw [Finset.sum_insert ha, Finset.sum_insert ha,
      EReal.right_distrib_of_nonneg_of_ne_top (EReal.coe_nonneg.mpr hr) (EReal.coe_ne_top r), ih]

theorem sum_coe {ι : Type} (s : Finset ι) (f : ι → ℝ) : (∑ i ∈ s, (f i : EReal)) = ((∑ i ∈ s, f i : ℝ) : EReal) := by
  classical
  induction s using Finset.induction_on with
  | empty => simp
  | insert a t ha ih => rw [Finset.sum_insert ha, Finset.sum_insert ha, ih, EReal.coe_add]

/-- Normalizing at the end and without the maximum is normalizing each weight with the maximum taken off: the scores
are reals, the values any extended reals. -/
theorem normalize {n : ℕ} {s : Fin (n + 1) → EReal} (hs : ∀ j, Real? (s j)) {M : EReal} (hM : Real? M)
    (v : Fin (n + 1) → EReal) :
    Ideal.div (∑ j, Ideal.exp (s j) * v j) (∑ j, Ideal.exp (s j)) =
      ∑ j, v j * Ideal.div (Ideal.exp (s j - M)) (∑ j', Ideal.exp (s j' - M)) := by
  choose t ht using hs
  obtain ⟨a, rfl⟩ := hM
  obtain rfl : s = fun j => (t j : EReal) := funext ht
  have e1 : ∀ j, Ideal.exp ((t j : EReal)) = (Real.exp (t j) : EReal) := fun j => rfl
  have e2 : ∀ j, Ideal.exp ((t j : EReal) - (a : EReal)) = (Real.exp (t j - a) : EReal) := fun j => by
    rw [← EReal.coe_sub]; rfl
  have p1 : (0 : ℝ) < ∑ j, Real.exp (t j) := Finset.sum_pos (fun j _ => Real.exp_pos _) Finset.univ_nonempty
  have p2 : (0 : ℝ) < ∑ j, Real.exp (t j - a) := Finset.sum_pos (fun j _ => Real.exp_pos _) Finset.univ_nonempty
  simp only [e1, e2, sum_coe]
  rw [Ideal.div_coe p1.ne', sum_mul_real _ _ (by positivity)]
  refine Finset.sum_congr rfl fun j _ => ?_
  rw [Ideal.div_coe p2.ne', mul_comm ((Real.exp (t j) : EReal)) (v j), mul_assoc, ← EReal.coe_mul, ← EReal.coe_mul]
  have hq : ∑ j, Real.exp (t j - a) = (∑ j, Real.exp (t j)) * Real.exp (-a) := by
    rw [Finset.sum_mul]
    exact Finset.sum_congr rfl fun j _ => by rw [← Real.exp_add, sub_eq_add_neg]
  have : Real.exp (t j) * (1 / ∑ j, Real.exp (t j)) = Real.exp (t j - a) * (1 / ∑ j, Real.exp (t j - a)) := by
    rw [hq, sub_eq_add_neg, Real.exp_add]
    field_simp
  rw [this]

/-- One entry of one head's attention, normalized at the end. -/
def head (s : Fin 256 → EReal) (v : Fin 256 → EReal) : EReal :=
  Ideal.div (∑ j, Ideal.exp (s j) * v j) (∑ j, Ideal.exp (s j))

/-- The sum over the 1024 columns of all heads, device by device. -/
theorem sum_devices (f : Fin 1024 → EReal) :
    ∑ x, f x = ∑ c : Fin 4, ∑ t : Fin 256, f ⟨c.val * 256 + t.val, by omega⟩ := by
  rw [← Fintype.sum_prod_type' (f := fun (c : Fin 4) (t : Fin 256) => f ⟨c.val * 256 + t.val, by omega⟩)]
  refine (Fintype.sum_equiv (finProdFinEquiv (m := 4) (n := 256)) _ f fun p => ?_).symm
  exact congrArg f (Fin.ext (by simp [finProdFinEquiv]; omega))

/-- Four terms added from any device on, two and two, are their sum. -/
theorem sum_ring (P : Fin 4 → EReal) (q : Fin 4) : (P q + P (q + 1)) + (P (q + 2) + P (q + 3)) = ∑ c, P c := by
  rw [Fin.sum_univ_four]
  fin_cases q
  · show (P 0 + P 1) + (P 2 + P 3) = _; ac_rfl
  · show (P 1 + P 2) + (P 3 + P 0) = _; ac_rfl
  · show (P 2 + P 3) + (P 0 + P 1) = _; ac_rfl
  · show (P 3 + P 0) + (P 1 + P 2) = _; ac_rfl

end Cert.Attention
-- ==== Proof.KerValue.lean ====
/- What one device computes at an entry of its product for a quarter. -/
module

public import proofs.«01_k».proof.Proof.Content
public import proofs.«01_k».proof.Proof.Softmax
public import Idealize.ShloMosaic.Lib.Pointwise

@[expose] public section

noncomputable section

namespace Cert.KernelIdeal.Hand

open Idealize.ShloMosaic Idealize.ShloMosaic.TcCoe
open Cert.KernelIdeal Cert.KernelIdeal.Gen

/-! ## The mask -/

/-- The number of the block of 64 a position lies in, as the kernel computes it on one word. -/
def blockWord (w : BitVec 32) : BitVec 32 :=
  Scalar.select
    (IntOp.andi
      (IntOp.cmpi CmpIPredicate.ne
        (IntOp.subi (BitVec.setWidth 32 (IntOp.cmpi CmpIPredicate.sgt w 0#32)) (BitVec.setWidth 32 (IntOp.cmpi CmpIPredicate.slt w 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32)
    (IntOp.divsi ArithUnit.vector w 64#32)

theorem blockWord_of (n : Fin 256) : blockWord (BitVec.ofNat 32 n.val) = BitVec.ofNat 32 (n.val / 64) := by
  revert n; decide +kernel

/-- Row `r` of quarter `q` within its batch entry. -/
def rowOf (q : Fin 4) (r : Fin 128) : Fin 256 := ⟨q.val % 2 * 128 + r.val, by omega⟩

theorem mask_at (q : Fin 4) (r : Fin 128) (j : Fin 256) :
    maskOf (r0 q) (ix2 r j) = IntOp.cmpi .sle (BitVec.ofNat 32 (j.val / 64)) (BitVec.ofNat 32 ((rowOf q r).val / 64)) := by
  rw [← blockWord_of, ← blockWord_of]
  have e : BitVec.ofNat 32 (rowOf q r).val = IntOp.addi (BitVec.ofNat 32 (q.val % 2 * 128)) (BitVec.ofNat 32 r.val) := by
    show _ = BitVec.ofNat 32 _ + BitVec.ofNat 32 _
    rw [← BitVec.ofNat_add]; rfl
  rw [e]
  unfold maskOf k0_pay36 k0_pay3 r0 blockWord
  pointwise

/-- Comparing two block numbers. -/
theorem le_words (a b : Fin 256) (α : Type) (u v : α) :
    Scalar.select (IntOp.cmpi .sle (BitVec.ofNat 32 (a.val / 64)) (BitVec.ofNat 32 (b.val / 64))) u v =
      if a.val / 64 ≤ b.val / 64 then u else v := by
  have h : ∀ p q : Fin 4, IntOp.cmpi .sle (BitVec.ofNat 32 p.val) (BitVec.ofNat 32 q.val) = BitVec.ofBool (decide (p.val ≤ q.val)) := by
    decide
  have h' := h ⟨a.val / 64, by omega⟩ ⟨b.val / 64, by omega⟩
  simp only at h'
  rw [h']
  by_cases hle : a.val / 64 ≤ b.val / 64
  · rw [if_pos hle, decide_eq_true hle]; rfl
  · rw [if_neg hle, decide_eq_false hle]; rfl

/-! ## One head -/

/-- One head's masked score. -/
def scoreK (mask : IVec S128x256 1) (qp : FVec Ideal S128x256 .f32) (k : Vec Ideal S1x256x64 .bf16) (h : Fin 4) (r : Fin 128)
    (j : Fin 256) : EReal :=
  Scalar.select (mask (ix2 r j))
    ((∑ e : Fin 64, qp (ix2 r ⟨h.val * 64 + e.val, by omega⟩) * k (ix3 0 j e)) * Ideal.ofBits .f32 0x3E000000#32)
    (Ideal.ofBits .f32 0xCE6E6B28#32)

theorem head_at (mask : IVec S128x256 1) (qp : FVec Ideal S128x64 .f32) (k v : Vec Ideal S1x256x64 .bf16) (r : Fin 128) (d : Fin 64) :
    k0_pay39 mask qp k v (ix2 r d) =
      Cert.Attention.head (fun j => Scalar.select (mask (ix2 r j))
        ((∑ e : Fin 64, qp (ix2 r e) * k (ix3 0 j e)) * Ideal.ofBits .f32 0x3E000000#32)
        (Ideal.ofBits .f32 0xCE6E6B28#32)) (fun j => v (ix3 0 j d)) := by
  unfold k0_pay39 Cert.Attention.head
  pointwise [dot_S128x256_S256x64_S128x64_1_0_0_1_n_n, dot_S128x64_S256x64_S128x256_1_1_0_0_n_n]

theorem q_at (wq : Vec Ideal S512x256 .bf16) (xb : Vec Ideal S1x128x512 .bf16) (r : Fin 128) (d : Fin 256) :
    qOf wq xb (ix2 r d) = ∑ e : Fin 512, xb (ix3 0 r e) * wq (ix2 e d) := by
  unfold qOf k0_pay4 k0_pay1
  pointwise [dot_S128x512_S512x256_S128x256_1_0_0_1_n_n]

/-- The columns of the concatenated heads: column `t` is column `t % 64` of head `t / 64`. -/
theorem heads_at (mask : IVec S128x256 1) (qp : FVec Ideal S128x256 .f32) (k v : Fin 4 → Vec Ideal S1x256x64 .bf16)
    (wo : Vec Ideal S256x512 .bf16) (r : Fin 128) (n : Fin 512) :
    partOf mask qp k v wo (ix2 r n) =
      ∑ t : Fin 256, Cert.Attention.head (scoreK mask qp (k ⟨t.val / 64, by omega⟩) ⟨t.val / 64, by omega⟩ r)
        (fun j => v ⟨t.val / 64, by omega⟩ (ix3 0 j ⟨t.val % 64, by omega⟩)) * wo (ix2 t n) := by
  unfold partOf k0_pay2
  pointwise [dot_S128x256_S256x512_S128x512_1_0_0_1_n_n]
  refine Finset.sum_congr rfl fun t _ => congrArg (· * _) ?_
  have key : ∀ (h : Fin 4) (d : Fin 64) (hs : S128x256.Slices ![0, h.val * 64] S128x64),
      k0_pay39 mask (extractStridedSlice S128x64 ![0, h.val * 64] qp hs) (k h) (v h) (ix2 r d) =
        Cert.Attention.head (scoreK mask qp (k h) h r) (fun j => v h (ix3 0 j d)) := by
    intro h d hs
    rw [head_at]
    unfold scoreK
    pointwise
  have pick : ∀ (h : Fin 4) (d : Fin 64), t.val = h.val * 64 + d.val →
      Cert.Attention.head (scoreK mask qp (k ⟨t.val / 64, by omega⟩) ⟨t.val / 64, by omega⟩ r)
        (fun j => v ⟨t.val / 64, by omega⟩ (ix3 0 j ⟨t.val % 64, by omega⟩)) =
      Cert.Attention.head (scoreK mask qp (k h) h r) (fun j => v h (ix3 0 j d)) := by
    intro h d e
    have e1 : (⟨t.val / 64, by omega⟩ : Fin 4) = h := Fin.ext (by show t.val / 64 = h.val; omega)
    have e2 : (⟨t.val % 64, by omega⟩ : Fin 64) = d := Fin.ext (by show t.val % 64 = d.val; omega)
    rw [e1, e2]
  by_cases h0 : t.val < 64
  · rw [dif_pos h0, pick 0 ⟨t.val, h0⟩ (by show t.val = 0 * 64 + t.val; omega)]
    exact key 0 _ _
  rw [dif_neg h0]
  by_cases h1 : t.val - 64 < 64
  · rw [dif_pos h1, pick 1 ⟨t.val - 64, h1⟩ (by show t.val = 1 * 64 + (t.val - 64); omega)]
    exact key 1 _ _
  rw [dif_neg h1]
  by_cases h2 : t.val - 64 - 64 < 64
  · rw [dif_pos h2, pick 2 ⟨t.val - 64 - 64, h2⟩ (by show t.val = 2 * 64 + (t.val - 64 - 64); omega)]
    exact key 2 _ _
  · rw [dif_neg h2, pick 3 ⟨t.val - 64 - 64 - 64, by omega⟩ (by show t.val = 3 * 64 + (t.val - 64 - 64 - 64); omega)]
    exact key 3 _ _

/-! ## The blocks read -/

theorem xBlk_at (x : Vec Ideal S2x256x512 .bf16) (q : Fin 4) (r : Fin 128) (e : Fin 512) :
    xBlk x q (ix3 0 r e) = x (ix3 ⟨q.val / 2, by omega⟩ (rowOf q r) e) := by
  unfold xBlk
  refine congrArg x (funext fun a => Fin.ext ?_)
  fin_cases a
  · show q.val / 2 + 1 * 0 = q.val / 2; omega
  · show q.val % 2 * 128 + 1 * r.val = q.val % 2 * 128 + r.val; omega
  · show 0 + 1 * e.val = e.val; omega

theorem kBlk_at (k : Vec Ideal S2x256x256 .bf16) (q h : Fin 4) (j : Fin 256) (d : Fin 64) :
    kBlk k q h (ix3 0 j d) = k (ix3 ⟨q.val / 2, by omega⟩ j ⟨h.val * 64 + d.val, by omega⟩) := by
  unfold kBlk
  refine congrArg k (funext fun a => Fin.ext ?_)
  fin_cases a
  · show q.val / 2 + 1 * 0 = q.val / 2; omega
  · show 0 + 1 * j.val = j.val; omega
  · show 64 * h.val + 1 * d.val = h.val * 64 + d.val; omega

theorem vBlk_at (v : Vec Ideal S2x256x256 .bf16) (q h : Fin 4) (j : Fin 256) (d : Fin 64) :
    vBlk v q h (ix3 0 j d) = v (ix3 ⟨q.val / 2, by omega⟩ j ⟨h.val * 64 + d.val, by omega⟩) := kBlk_at v q h j d

/-- One device's product for a quarter, at an entry. -/
theorem part_at (I : Inp Ideal) (q : Fin 4) (r : Fin 128) (n : Fin 512) :
    part I q (ix2 r n) =
      ∑ t : Fin 256, Cert.Attention.head
        (fun j => if j.val / 64 ≤ (rowOf q r).val / 64 then
          (∑ d : Fin 64, (∑ e : Fin 512, I.x (ix3 ⟨q.val / 2, by omega⟩ (rowOf q r) e) * I.wq (ix2 e ⟨t.val / 64 * 64 + d.val, by omega⟩))
            * I.k (ix3 ⟨q.val / 2, by omega⟩ j ⟨t.val / 64 * 64 + d.val, by omega⟩)) * Ideal.ofBits .f32 0x3E000000#32
          else Ideal.ofBits .f32 0xCE6E6B28#32)
        (fun j => I.v (ix3 ⟨q.val / 2, by omega⟩ j t)) * I.wo (ix2 t n) := by
  unfold part
  rw [heads_at]
  refine Finset.sum_congr rfl fun t _ => congrArg (· * _) ?_
  have e1 : scoreK (maskOf (r0 q)) (qOf I.wq (xBlk I.x q)) (kBlk I.k q ⟨t.val / 64, by omega⟩) ⟨t.val / 64, by omega⟩ r =
      fun j => if j.val / 64 ≤ (rowOf q r).val / 64 then
          (∑ d : Fin 64, (∑ e : Fin 512, I.x (ix3 ⟨q.val / 2, by omega⟩ (rowOf q r) e) * I.wq (ix2 e ⟨t.val / 64 * 64 + d.val, by omega⟩))
            * I.k (ix3 ⟨q.val / 2, by omega⟩ j ⟨t.val / 64 * 64 + d.val, by omega⟩)) * Ideal.ofBits .f32 0x3E000000#32
          else Ideal.ofBits .f32 0xCE6E6B28#32 := by
    funext j
    unfold scoreK
    rw [mask_at, le_words]
    simp only [q_at, xBlk_at, kBlk_at]
  have e2 : (fun j => vBlk I.v q ⟨t.val / 64, by omega⟩ (ix3 0 j ⟨t.val % 64, by omega⟩)) =
      fun j => I.v (ix3 ⟨q.val / 2, by omega⟩ j t) := by
    funext j
    rw [vBlk_at]
    refine congrArg I.v (congrArg (ix3 _ j) (Fin.ext ?_))
    show t.val / 64 * 64 + t.val % 64 = t.val
    omega
  rw [e1, e2]

/-- The result at an entry: the sum over the devices of their products for the entry's quarter. -/
theorem OUT_at (I : Fin 4 → Inp Ideal) (b : Fin 2) (i : Fin 256) (n : Fin 512) :
    OUT I (ix3 b i n) = ∑ c : Fin 4, part (I c) (quarterOf b i) (ix2 ⟨i.val % 128, by omega⟩ n) := by
  rw [← Cert.Attention.sum_ring _ (quarterOf b i)]
  have e : (Shape.pair (d := ![128, 512]) ⟨i.val % 128, Nat.mod_lt _ (by decide)⟩ n : S128x512.Idx) = ix2 ⟨i.val % 128, by omega⟩ n := by
    funext a; fin_cases a <;> rfl
  rw [← e]
  rfl

theorem quarter_batch (b : Fin 2) (i : Fin 256) : (⟨(quarterOf b i).val / 2, by omega⟩ : Fin 2) = b :=
  Fin.ext (by show (b.val * 2 + i.val / 128) / 2 = b.val; omega)

theorem quarter_row (b : Fin 2) (i : Fin 256) : rowOf (quarterOf b i) ⟨i.val % 128, by omega⟩ = i :=
  Fin.ext (by show (b.val * 2 + i.val / 128) % 2 * 128 + i.val % 128 = i.val; omega)

end Cert.KernelIdeal.Hand
-- ==== Proof.Inputs.lean ====
/- What the kernel's inputs are, in terms of the arguments. -/
module

public import proofs.«01_k».proof.Proof.Run
public import proofs.«01_k».proof.Proof.KerValue
public import Idealize.ShloMosaic.Lib.Claim
public import Idealize.ShloMosaic.Lib.StableHlo.ReadAt
public import Idealize.ShloMosaic.Lib.DynamicIndex

@[expose] public section

noncomputable section

namespace Cert.KernelIdeal.Hand

open Idealize.ShloMosaic Idealize.ShloMosaic.TcCoe
open Cert.KernelIdeal Cert.KernelIdeal.Gen

variable (m : (ℓ : Loc nD τ sig) → Buf (Elt Ideal) ℓ)

/-- The word naming a device's first head. -/
theorem first_head (c : Dev nD) (i : S_.Idx) :
    BitVec.toInt (select
      (cmpi CmpIPredicate.slt
        (muli (id (Host.remui (Host.divui (constantI S_ 32 (Dev.word c)) (constantI S_ 32 1#32)) (constantI S_ 32 4#32)))
          (constantI S_ 32 4#32))
        (constantI S_ 32 0#32))
      (addi
        (muli (id (Host.remui (Host.divui (constantI S_ 32 (Dev.word c)) (constantI S_ 32 1#32)) (constantI S_ 32 4#32)))
          (constantI S_ 32 4#32))
        (constantI S_ 32 16#32))
      (muli (id (Host.remui (Host.divui (constantI S_ 32 (Dev.word c)) (constantI S_ 32 1#32)) (constantI S_ 32 4#32)))
        (constantI S_ 32 4#32)) i) = ((c.val * 4 : ℕ) : ℤ) := by
  obtain rfl : i = ix0 := funext fun a => a.elim0
  revert c
  decide +kernel

/-- Where a device's four heads start in the keys and in the values. -/
abbrev headOff (c : Dev nD) : Fin 4 → ℕ := ![0, 0, c.val * 4, 0]

theorem kslice (c : Dev nD) : StableHlo.after (hostOps0 c) (V0 m c) (Proc.devRef .tc main_v9) =
    Host.dynamicSlice S2x256x4x64 (m ((c.tc : Thread nD τ).loc main_arg2)) (fun k => ((headOff c k : ℕ) : ℤ)) sliceFits_S2x256x16x64_S2x256x4x64 := by
  after_reads_simp
  refine congrArg (fun S => Host.dynamicSlice S2x256x4x64 (m ((c.tc : Thread nD τ).loc main_arg2)) S sliceFits_S2x256x16x64_S2x256x4x64) (funext fun k => ?_)
  fin_cases k
  · show BitVec.toInt ((StableHlo.upto (hostOps0 c) (V0 m c) 16 (Proc.devRef .tc main_c_4) : IVec S_ 32) _) = _
    after_reads_simp
    rfl
  · show BitVec.toInt ((StableHlo.upto (hostOps0 c) (V0 m c) 16 (Proc.devRef .tc main_c_5) : IVec S_ 32) _) = _
    after_reads_simp
    rfl
  · show BitVec.toInt ((StableHlo.upto (hostOps0 c) (V0 m c) 16 (Proc.devRef .tc main_v8) : IVec S_ 32) _) = _
    after_reads_simp
    exact first_head c _
  · show BitVec.toInt ((StableHlo.upto (hostOps0 c) (V0 m c) 16 (Proc.devRef .tc main_c_6) : IVec S_ 32) _) = _
    after_reads_simp
    rfl

theorem vslice (c : Dev nD) : StableHlo.after (hostOps0 c) (V0 m c) (Proc.devRef .tc main_v15) =
    Host.dynamicSlice S2x256x4x64 (m ((c.tc : Thread nD τ).loc main_arg3)) (fun k => ((headOff c k : ℕ) : ℤ)) sliceFits_S2x256x16x64_S2x256x4x64 := by
  after_reads_simp
  refine congrArg (fun S => Host.dynamicSlice S2x256x4x64 (m ((c.tc : Thread nD τ).loc main_arg3)) S sliceFits_S2x256x16x64_S2x256x4x64) (funext fun k => ?_)
  fin_cases k
  · show BitVec.toInt ((StableHlo.upto (hostOps0 c) (V0 m c) 28 (Proc.devRef .tc main_c_10) : IVec S_ 32) _) = _
    after_reads_simp
    rfl
  · show BitVec.toInt ((StableHlo.upto (hostOps0 c) (V0 m c) 28 (Proc.devRef .tc main_c_11) : IVec S_ 32) _) = _
    after_reads_simp
    rfl
  · show BitVec.toInt ((StableHlo.upto (hostOps0 c) (V0 m c) 28 (Proc.devRef .tc main_v14) : IVec S_ 32) _) = _
    after_reads_simp
    exact first_head c _
  · show BitVec.toInt ((StableHlo.upto (hostOps0 c) (V0 m c) 28 (Proc.devRef .tc main_c_12) : IVec S_ 32) _) = _
    after_reads_simp
    rfl

theorem headOff_slices (c : Dev nD) : S2x256x16x64.Slices (headOff c) S2x256x4x64 := by
  revert c; decide

/-- Four heads cut out and laid side by side, at an entry. -/
theorem heads_slice_at (c : Dev nD) (X : S2x256x16x64.Idx → EReal) (b : Fin 2) (j t : Fin 256) :
    shapeCast S2x256x256 (Host.dynamicSlice S2x256x4x64 X (fun k => ((headOff c k : ℕ) : ℤ)) sliceFits_S2x256x16x64_S2x256x4x64)
      shapeCasts_S2x256x4x64_S2x256x256 (ix3 b j t) =
    X (ix4 b j (⟨c.val * 4 + t.val / 64, by have : c.val < 4 := c.isLt; omega⟩ : Fin 16) (⟨t.val % 64, by omega⟩ : Fin 64)) := by
  rw [Host.dynamicSlice_eq_extractStridedSlice _ _ _ (headOff c) sliceFits_S2x256x16x64_S2x256x4x64 (headOff_slices c) (fun a => rfl)]
  pointwise

theorem k_at (c : Dev nD) (b : Fin 2) (j t : Fin 256) :
    (inp m c).k (ix3 b j t) = m ((c.tc : Thread nD τ).loc main_arg2)
      (ix4 b j (⟨c.val * 4 + t.val / 64, by have : c.val < 4 := c.isLt; omega⟩ : Fin 16) (⟨t.val % 64, by omega⟩ : Fin 64)) := by
  have e : (inp m c).k = shapeCast S2x256x256 (StableHlo.after (hostOps0 c) (V0 m c) (Proc.devRef .tc main_v9)) shapeCasts_S2x256x4x64_S2x256x256 := by
    show StableHlo.after (hostOps0 c) (V0 m c) (Proc.devRef .tc main_v10) = _
    after_reads_simp
    rfl
  rw [e, kslice]
  exact heads_slice_at c _ b j t

theorem v_at (c : Dev nD) (b : Fin 2) (j t : Fin 256) :
    (inp m c).v (ix3 b j t) = m ((c.tc : Thread nD τ).loc main_arg3)
      (ix4 b j (⟨c.val * 4 + t.val / 64, by have : c.val < 4 := c.isLt; omega⟩ : Fin 16) (⟨t.val % 64, by omega⟩ : Fin 64)) := by
  have e : (inp m c).v = shapeCast S2x256x256 (StableHlo.after (hostOps0 c) (V0 m c) (Proc.devRef .tc main_v15)) shapeCasts_S2x256x4x64_S2x256x256 := by
    show StableHlo.after (hostOps0 c) (V0 m c) (Proc.devRef .tc main_v16) = _
    after_reads_simp
    rfl
  rw [e, vslice]
  exact heads_slice_at c _ b j t

theorem wq_eq (c : Dev nD) : (inp m c).wq = m ((c.tc : Thread nD τ).loc main_arg1) :=
  (V1_of m c main_arg1 (by decide)).trans rfl

theorem wo_eq (c : Dev nD) : (inp m c).wo = m ((c.tc : Thread nD τ).loc main_arg4) :=
  (V1_of m c main_arg4 (by decide)).trans rfl

theorem x_eq (c : Dev nD) : (inp m c).x = m ((c.tc : Thread nD τ).loc main_arg0) :=
  (V1_of m c main_arg0 (by decide)).trans rfl

end Cert.KernelIdeal.Hand
-- ==== Proof.RefValue.lean ====
/- What the reference computes at an entry of its result. -/
module

public import proofs.«01_k».proof.Proof.Gen.ReferenceIdeal.Run
public import Idealize.ShloMosaic.Lib.Pointwise
public import Idealize.ShloMosaic.Lib.Routing.OpsOrder
public import proofs.«01_k».proof.Proof.Softmax

@[expose] public section

noncomputable section

namespace Cert.ReferenceIdeal.Hand

open Cert.ReferenceIdeal Cert.ReferenceIdeal.Gen Idealize.ShloMosaic Idealize.ShloMosaic.TcCoe Idealize.SL.Sem

/-- The number of the block of 64 that each position lies in, as the program computes it. -/
def blockWords : IVec S256 32 :=
  select (andi (cmpi .ne (signi (iotaInDim S256 32 0)) (broadcastInDim S256 ![] bcast_S_S256 (signi (id (constantI S_ 32 64#32))))) (cmpi .ne (Host.remsi (iotaInDim S256 32 0) (broadcastInDim S256 ![] bcast_S_S256 (id (constantI S_ 32 64#32)))) (broadcastInDim S256 ![] bcast_S_S256 (constantI S_ 32 0#32)))) (subi (Host.divsi (iotaInDim S256 32 0) (broadcastInDim S256 ![] bcast_S_S256 (id (constantI S_ 32 64#32)))) (broadcastInDim S256 ![] bcast_S_S256 (constantI S_ 32 1#32))) (Host.divsi (iotaInDim S256 32 0) (broadcastInDim S256 ![] bcast_S_S256 (id (constantI S_ 32 64#32))))

/-- Which positions a query sees: those of its own block and of the blocks before it. -/
def seen : IVec S256x256 1 :=
  cmpi .sle (broadcastInDim S256x256 ![0, 1] bcast_S1x256_S256x256_0_1 (broadcastInDim S1x256 ![1] bcast_S256_S1x256_1 blockWords)) (broadcastInDim S256x256 ![0, 1] bcast_S256x1_S256x256_0_1 (broadcastInDim S256x1 ![0] bcast_S256_S256x1_0 blockWords))

/-- The masked scores. -/
def scores (x : FVec Ideal S2x256x512 .bf16) (wq : FVec Ideal S512x1024 .bf16) (k : FVec Ideal S2x256x16x64 .bf16) : FVec Ideal S2x16x256x256 .f32 :=
  select (broadcastInDim S2x16x256x256 ![0, 1, 2, 3] bcast_S1x1x256x256_S2x16x256x256_0_1_2_3 (broadcastInDim S1x1x256x256 ![2, 3] bcast_S256x256_S1x1x256x256_2_3 seen)) (mulf (extf .f32 (truncf .bf16 (Host.dotGeneral dot_S2x256x16x64_S2x256x16x64_S2x16x256x256_3_3_1_1_02_02 none (shapeCast _ (truncf .bf16 (Host.dotGeneral dot_S2x256x512_S512x1024_S2x256x1024_2_0_01_1_n_n none x wq) bitsLt_bf16_f32) shapeCasts_S2x256x1024_S2x256x16x64) k) bitsLt_bf16_f32) bitsLt_bf16_f32) (broadcastInDim S2x16x256x256 ![] bcast_S_S2x16x256x256 (constant S_ .f32 0x3E000000#32))) (broadcastInDim S2x16x256x256 ![] bcast_S_S2x16x256x256 (id (constant S_ .f32 0xCE6E6B28#32)))

/-- The exponentials of the scores less their row's maximum. -/
def expo (s : FVec Ideal S2x16x256x256 .f32) : FVec Ideal S2x16x256x256 .f32 :=
  Host.exp (subf s (broadcastInDim S2x16x256x256 ![0, 1, 2, 3] bcast_S2x16x256x1_S2x16x256x256_0_1_2_3 (broadcastInDim S2x16x256x1 ![0, 1, 2] bcast_S2x16x256_S2x16x256x1_0_1_2 (Host.reduce FloatOps.maximumf s (constant S_ .f32 0xFF800000#32) reducesTo_S2x16x256x256_S2x16x256_d3 h_S_))))

/-- Whether a query sees any position. -/
def keep : IVec S256 1 := Host.reduce IntOp.ori seen (constantI S_ 1 0#1) reducesTo_S256x256_S256_d1 h_S_

/-- The weights. -/
def weights (e : FVec Ideal S2x16x256x256 .f32) : FVec Ideal S2x16x256x256 .f32 :=
  select (broadcastInDim S2x16x256x256 ![0, 1, 2, 3] bcast_S1x1x256x1_S2x16x256x256_0_1_2_3 (broadcastInDim S1x1x256x1 ![2] bcast_S256_S1x1x256x1_2 keep)) (Host.divf e (broadcastInDim S2x16x256x256 ![0, 1, 2, 3] bcast_S2x16x256x1_S2x16x256x256_0_1_2_3 (select (broadcastInDim S2x16x256x1 ![0, 1, 2, 3] bcast_S1x1x256x1_S2x16x256x1_0_1_2_3 (broadcastInDim S1x1x256x1 ![2] bcast_S256_S1x1x256x1_2 keep)) (broadcastInDim S2x16x256x1 ![0, 1, 2] bcast_S2x16x256_S2x16x256x1_0_1_2 (Host.reduceAdd e (constant S_ .f32 0x00000000#32) reducesTo_S2x16x256x256_S2x16x256_d3 h_S_)) (broadcastInDim S2x16x256x1 ![] bcast_S_S2x16x256x1 (id (constant S_ .f32 0x3F800000#32)))))) (broadcastInDim S2x16x256x256 ![] bcast_S_S2x16x256x256 (id (constant S_ .f32 0x00000000#32)))

/-- The result from the weights. -/
def mixed (w : FVec Ideal S2x16x256x256 .f32) (v : FVec Ideal S2x256x16x64 .bf16) (wo : FVec Ideal S1024x512 .bf16) : FVec Ideal S2x256x512 .bf16 :=
  truncf .bf16 (Host.dotGeneral dot_S2x256x1024_S1024x512_S2x256x512_2_0_01_1_n_n none (shapeCast _ (transpose S2x256x16x64 [0, 3, 1, 2] (Host.dotGeneral dot_S2x256x16x64_S2x16x256x256_S2x16x64x256_1_3_3_2_02_01 none (extf .f32 v bitsLt_bf16_f32) w) transposes_S2x16x64x256_S2x256x16x64_0_3_1_2) shapeCasts_S2x256x16x64_S2x256x1024) (extf .f32 wo bitsLt_bf16_f32)) bitsLt_bf16_f32

/-- The program's result, stage by stage. -/
theorem result_eq (m : (ℓ : Loc nD τ sig) → Buf (Elt Ideal) ℓ) (c : Dev nD) :
    Cert.ReferenceIdeal.Value.res_out0 m c =
      mixed (weights (expo (scores (m ((c.tc : Thread nD τ).loc main_arg0)) (m ((c.tc : Thread nD τ).loc main_arg1)) (m ((c.tc : Thread nD τ).loc main_arg2)))))
        (m ((c.tc : Thread nD τ).loc main_arg3)) (m ((c.tc : Thread nD τ).loc main_arg4)) := rfl

theorem blockWords_at (j : Fin 256) : blockWords (ix1 j) = BitVec.ofNat 32 (j.val / 64) := by
  revert j; decide +kernel

/-- Comparing two block numbers. -/
theorem le_words (a b : Fin 256) (α : Type) (u v : α) :
    Scalar.select (IntOp.cmpi .sle (BitVec.ofNat 32 (a.val / 64)) (BitVec.ofNat 32 (b.val / 64))) u v =
      if a.val / 64 ≤ b.val / 64 then u else v := by
  have h : ∀ p q : Fin 4, IntOp.cmpi .sle (BitVec.ofNat 32 p.val) (BitVec.ofNat 32 q.val) = BitVec.ofBool (decide (p.val ≤ q.val)) := by
    decide
  have h' := h ⟨a.val / 64, by omega⟩ ⟨b.val / 64, by omega⟩
  simp only at h'
  rw [h']
  by_cases hle : a.val / 64 ≤ b.val / 64
  · rw [if_pos hle, decide_eq_true hle]; rfl
  · rw [if_neg hle, decide_eq_false hle]; rfl

theorem seen_at (i j : Fin 256) :
    seen (ix2 i j) = IntOp.cmpi .sle (BitVec.ofNat 32 (j.val / 64)) (BitVec.ofNat 32 (i.val / 64)) := by
  pointwise [seen]
  rw [blockWords_at, blockWords_at]

/-- Every query sees its own position. -/
theorem keep_at (i : Fin 256) : keep (ix1 i) = 1#1 := by
  pointwise [keep]
  rw [Routing.fold_ori]
  exact ⟨i, Finset.mem_univ _, by rw [seen_at]; revert i; decide +kernel⟩

theorem scores_at (x : FVec Ideal S2x256x512 .bf16) (wq : FVec Ideal S512x1024 .bf16) (k : FVec Ideal S2x256x16x64 .bf16)
    (b : Fin 2) (h : Fin 16) (i j : Fin 256) :
    scores x wq k (ix4 b h i j) = Cert.Attention.score (fun b i e => x (ix3 b i e)) (fun e c => wq (ix2 e c)) (fun b j h d => k (ix4 b j h d)) b h i j := by
  pointwise [scores, dot_S2x256x16x64_S2x256x16x64_S2x16x256x256_3_3_1_1_02_02, dot_S2x256x512_S512x1024_S2x256x1024_2_0_01_1_n_n]
  rw [seen_at, le_words]
  rfl

theorem expo_at (s : FVec Ideal S2x16x256x256 .f32) (b : Fin 2) (h : Fin 16) (i j : Fin 256) :
    expo s (ix4 b h i j) = Ideal.exp (s (ix4 b h i j) - Finset.fold max ⊥ (fun j => s (ix4 b h i j)) Finset.univ) := by
  pointwise [expo]
  rw [Cert.Attention.ofBits_least]

theorem weights_at (s : FVec Ideal S2x16x256x256 .f32) (b : Fin 2) (h : Fin 16) (i j : Fin 256) :
    weights s (ix4 b h i j) = Ideal.div (s (ix4 b h i j)) (∑ j, s (ix4 b h i j)) := by
  pointwise [weights]
  rw [keep_at]
  rfl

theorem mixed_at (w : FVec Ideal S2x16x256x256 .f32) (v : FVec Ideal S2x256x16x64 .bf16) (wo : FVec Ideal S1024x512 .bf16)
    (b : Fin 2) (i : Fin 256) (n : Fin 512) :
    mixed w v wo (ix3 b i n) =
      ∑ t : Fin 1024, (∑ j : Fin 256, v (ix4 b j ⟨t.val / 64, by omega⟩ ⟨t.val % 64, by omega⟩) * w (ix4 b ⟨t.val / 64, by omega⟩ i j)) * wo (ix2 t n) := by
  pointwise [mixed, dot_S2x256x1024_S1024x512_S2x256x512_2_0_01_1_n_n, dot_S2x256x16x64_S2x16x256x256_S2x16x64x256_1_3_3_2_02_01]

/-- The program's result at an entry: attention over sixteen heads, each normalized at the end, then the output
weights. The rows, the query weights and the keys are real numbers. -/
theorem result_at (x : FVec Ideal S2x256x512 .bf16) (wq : FVec Ideal S512x1024 .bf16) (k v : FVec Ideal S2x256x16x64 .bf16)
    (wo : FVec Ideal S1024x512 .bf16) (hx : ∀ b i e, Cert.Attention.Real? (x (ix3 b i e)))
    (hw : ∀ e c, Cert.Attention.Real? (wq (ix2 e c))) (hk : ∀ b j h d, Cert.Attention.Real? (k (ix4 b j h d)))
    (b : Fin 2) (i : Fin 256) (n : Fin 512) :
    mixed (weights (expo (scores x wq k))) v wo (ix3 b i n) =
      ∑ t : Fin 1024, Cert.Attention.head
        (Cert.Attention.score (fun b i e => x (ix3 b i e)) (fun e c => wq (ix2 e c)) (fun b j h d => k (ix4 b j h d)) b ⟨t.val / 64, by omega⟩ i)
        (fun j => v (ix4 b j ⟨t.val / 64, by omega⟩ ⟨t.val % 64, by omega⟩)) * wo (ix2 t n) := by
  rw [mixed_at]
  refine Finset.sum_congr rfl fun t _ => congrArg (· * _) ?_
  have hs := Cert.Attention.score_real (x := fun b i e => x (ix3 b i e)) (wq := fun e c => wq (ix2 e c))
    (k := fun b j h d => k (ix4 b j h d)) hx hw hk b ⟨t.val / 64, by omega⟩ i
  refine Eq.trans ?_ (Cert.Attention.normalize (n := 255) hs (Cert.Attention.max_real (n := 255) hs) _).symm
  refine Finset.sum_congr rfl fun j _ => ?_
  rw [weights_at]
  simp only [expo_at, scores_at]

end Cert.ReferenceIdeal.Hand
-- ==== Proof.Finite.lean ====
/- The precondition read back: which entries it makes real numbers. -/
module

public import proofs.«01_k».proof.Defs
public import proofs.«01_k».proof.Proof.Softmax
public import Idealize.ShloMosaic.Lib.ReduceAll
public import Idealize.ShloMosaic.Lib.Claim

@[expose] public section

noncomputable section

namespace Cert.Proof

open Idealize.ShloMosaic
open Cert.Attention (Real?)

instance facts_finite_KernelIdeal : Cert.Pre_finite_KernelIdeal.Facts where
  bcast_S_S2x256x512 := by decide
  reducesTo_S2x256x512_S_d0_1_2 := by decide
  h_S_ := by decide
  bcast_S_S512x256 := by decide
  reducesTo_S512x256_S_d0_1 := by decide
  bcast_S_S2x256x16x64 := by decide
  reducesTo_S2x256x16x64_S_d0_1_2_3 := by decide

instance facts_finite_ReferenceIdeal : Cert.Pre_finite_ReferenceIdeal.Facts where
  bcast_S_S2x256x512 := by decide
  reducesTo_S2x256x512_S_d0_1_2 := by decide
  h_S_ := by decide
  bcast_S_S512x1024 := by decide
  reducesTo_S512x1024_S_d0_1 := by decide
  bcast_S_S2x256x16x64 := by decide
  reducesTo_S2x256x16x64_S_d0_1_2_3 := by decide

/-- The pattern of the greatest value is the greatest extended real. -/
theorem ofBits_greatest : Ideal.ofBits .bf16 0x7F80#16 = ⊤ := by
  simp [Ideal.ofBits, Ideal.ieee]

/-- An extended real whose absolute value compares below the greatest is a real number. -/
theorem real_of_cmp (x : EReal) (h : Ideal.cmp .olt (max x (-x)) (Ideal.ofBits .bf16 0x7F80#16) = 1#1) : Real? x := by
  rw [ofBits_greatest] at h
  have hlt : max x (-x) < ⊤ := by
    by_contra hn
    have e : Ideal.cmp .olt (max x (-x)) ⊤ = 0#1 := by simp only [Ideal.cmp, decide_eq_false hn]; rfl
    exact absurd (e.symm.trans h) (by decide)
  obtain ⟨h1, h2⟩ := max_lt_iff.1 hlt
  induction x with
  | bot => exact absurd h2 (by simp)
  | top => exact absurd h1 (by simp)
  | coe r => exact ⟨r, rfl⟩

/-- Two bits whose conjunction is one are both one. -/
theorem both_one : ∀ {p q : BitVec 1}, IntOp.andi p q = 1#1 → p = 1#1 ∧ q = 1#1 := by decide

instance : Subsingleton Cert.Pre_finite_KernelIdeal.S_.Idx := ⟨fun a b => funext fun i => i.elim0⟩

open Cert.Pre_finite_KernelIdeal in
/-- What the precondition says of five arrays: the entries of the first three are real numbers. -/
theorem finite_entries (x : FVec Ideal S2x256x512 .bf16) (wq : FVec Ideal S512x256 .bf16) (k v : FVec Ideal S2x256x16x64 .bf16)
    (wo : FVec Ideal S256x512 .bf16) (h : fn (F := Ideal) x wq k v wo = fun _ => 1#1) :
    (∀ i, Real? (x i)) ∧ (∀ i, Real? (wq i)) ∧ ∀ i, Real? (k i) := by
  obtain ⟨h12, h3⟩ := both_one (congrFun h fun a => a.elim0)
  obtain ⟨h1, h2⟩ := both_one h12
  exact ⟨fun i => real_of_cmp _ (Host.reduce_andi_all _ _ _ _ _ h1 i), fun i => real_of_cmp _ (Host.reduce_andi_all _ _ _ _ _ h2 i),
    fun i => real_of_cmp _ (Host.reduce_andi_all _ _ _ _ _ h3 i)⟩

end Cert.Proof

end
-- ==== Proof.Value.lean ====
/- The two programs' results are the same array: the kernel's four partial products, each of one device's four heads, add up
   to the reference's one product over all sixteen heads. -/
module

public import proofs.«01_k».proof.Proof.Inputs
public import proofs.«01_k».proof.Proof.RefValue
public import proofs.«01_k».proof.Proof.Finite
public import Idealize.ShloMosaic.Lib.Layout

@[expose] public section

noncomputable section

namespace Cert.Proof

open Idealize.ShloMosaic
open Cert.Attention (Real?)
open Cert.KernelIdeal.Hand (Inp OUT part rowOf quarterOf)

/-- The kernel's result at an entry, when each device holds its share of five whole arrays. -/
theorem kernel_entry (I : Fin 4 → Inp Ideal) (x : Cert.KernelIdeal.S2x256x512.Idx → EReal)
    (wq : (⟨2, ![512, 1024]⟩ : Shape).Idx → EReal) (k v : Cert.KernelIdeal.S2x256x16x64.Idx → EReal)
    (wo : (⟨2, ![1024, 512]⟩ : Shape).Idx → EReal)
    (hx : ∀ c b i e, (I c).x (ix3 b i e) = x (ix3 b i e))
    (hw : ∀ c e (t : Fin 256), (I c).wq (ix2 e t) = wq (ix2 e ⟨c.val * 256 + t.val, by omega⟩))
    (hk : ∀ c b j (t : Fin 256), (I c).k (ix3 b j t) = k (ix4 b j ⟨c.val * 4 + t.val / 64, by omega⟩ ⟨t.val % 64, by omega⟩))
    (hv : ∀ c b j (t : Fin 256), (I c).v (ix3 b j t) = v (ix4 b j ⟨c.val * 4 + t.val / 64, by omega⟩ ⟨t.val % 64, by omega⟩))
    (ho : ∀ c (t : Fin 256) n, (I c).wo (ix2 t n) = wo (ix2 ⟨c.val * 256 + t.val, by omega⟩ n))
    (b : Fin 2) (i : Fin 256) (n : Fin 512) :
    OUT I (ix3 b i n) = ∑ t : Fin 1024, Cert.Attention.head
      (Cert.Attention.score (fun b i e => x (ix3 b i e)) (fun e c => wq (ix2 e c)) (fun b j h d => k (ix4 b j h d)) b ⟨t.val / 64, by omega⟩ i)
      (fun j => v (ix4 b j ⟨t.val / 64, by omega⟩ ⟨t.val % 64, by omega⟩)) * wo (ix2 t n) := by
  rw [Cert.KernelIdeal.Hand.OUT_at, Cert.Attention.sum_devices]
  refine Finset.sum_congr rfl fun c _ => ?_
  rw [Cert.KernelIdeal.Hand.part_at]
  refine Finset.sum_congr rfl fun t _ => ?_
  rw [Cert.KernelIdeal.Hand.quarter_row, Cert.KernelIdeal.Hand.quarter_batch, ho]
  have hh : (⟨(c.val * 256 + t.val) / 64, by omega⟩ : Fin 16) = ⟨c.val * 4 + t.val / 64, by omega⟩ := Fin.ext (by show (c.val * 256 + t.val) / 64 = c.val * 4 + t.val / 64; omega)
  have hd : (⟨(c.val * 256 + t.val) % 64, by omega⟩ : Fin 64) = ⟨t.val % 64, by omega⟩ := Fin.ext (by show (c.val * 256 + t.val) % 64 = t.val % 64; omega)
  refine congrArg (· * _) (congrArg₂ Cert.Attention.head (funext fun j => ?_) (funext fun j => ?_))
  · unfold Cert.Attention.score
    refine congrArg (fun u : EReal => if j.val / 64 ≤ i.val / 64 then u * Ideal.ofBits .f32 0x3E000000#32 else Ideal.ofBits .f32 0xCE6E6B28#32) ?_
    refine Finset.sum_congr rfl fun d _ => congrArg₂ (· * ·) (Finset.sum_congr rfl fun e _ => congrArg₂ (· * ·) (hx ..) ((hw ..).trans ?_)) ((hk ..).trans ?_)
    · refine congrArg (fun u => wq (ix2 e u)) (Fin.ext ?_)
      show c.val * 256 + (t.val / 64 * 64 + d.val) = (c.val * 256 + t.val) / 64 * 64 + d.val
      omega
    · refine congrArg₂ (fun u w => k (ix4 b j u w)) (Fin.ext ?_) (Fin.ext ?_)
      · show c.val * 4 + (t.val / 64 * 64 + d.val) / 64 = (c.val * 256 + t.val) / 64
        omega
      · show (t.val / 64 * 64 + d.val) % 64 = d.val
        omega
  · rw [hv]
    exact congrArg₂ (fun u w => v (ix4 b j u w)) hh.symm hd.symm

/-- A device's columns of a whole array. -/
theorem block_cols (c : Fin 4) (W : (⟨2, ![512, 1024]⟩ : Shape).Idx → EReal) (h) (e : Fin 512) (t : Fin 256) :
    Layout.block ⟨2, ![512, 256]⟩ ⟨2, ![512, 1024]⟩ 1 4 c W h (ix2 e t) = W (ix2 e ⟨c.val * 256 + t.val, by omega⟩) := by
  rw [Layout.block_apply]
  refine congrArg W (funext fun a => Fin.ext ?_)
  fin_cases a <;> rfl

/-- A device's rows of a whole array. -/
theorem block_rows (c : Fin 4) (W : (⟨2, ![1024, 512]⟩ : Shape).Idx → EReal) (h) (t : Fin 256) (n : Fin 512) :
    Layout.block ⟨2, ![256, 512]⟩ ⟨2, ![1024, 512]⟩ 0 4 c W h (ix2 t n) = W (ix2 ⟨c.val * 256 + t.val, by omega⟩ n) := by
  rw [Layout.block_apply]
  refine congrArg W (funext fun a => Fin.ext ?_)
  fin_cases a <;> rfl

theorem algebraic : Cert.algebraic_KernelIdeal_ReferenceIdeal_pre_finite_KernelIdeal := by
  intro m g m' g' hpre hargs
  have hfin := fun c => finite_entries _ _ _ _ _ (hpre c)
  have hres : OUT (Cert.KernelIdeal.Hand.inp m) = Cert.ReferenceIdeal.Value.res_out0 m' 0 := by
    rw [Cert.ReferenceIdeal.Hand.result_eq]
    funext y
    obtain ⟨b, i, n, rfl⟩ : ∃ (b : Fin 2) (i : Fin 256) (n : Fin 512), y = ix3 b i n := ⟨y 0, y 1, y 2, eq_ix3 y⟩
    have e0 := (hargs 0).1
    have e2 := (hargs 0).2.2.1
    refine (kernel_entry _ _ _ _ _ _ (fun c b i e => ?_) (fun c e t => ?_) (fun c b j t => ?_) (fun c b j t => ?_) (fun c t n => ?_) b i n).trans
      (Cert.ReferenceIdeal.Hand.result_at _ _ _ _ _ (fun b i e => ?_) (fun e u => ?_) (fun b j h d => ?_) b i n).symm
    · rw [Cert.KernelIdeal.Hand.x_eq, (hargs c).1]
    · rw [Cert.KernelIdeal.Hand.wq_eq, (hargs c).2.1]
      exact block_cols ..
    · rw [Cert.KernelIdeal.Hand.k_at, (hargs c).2.2.1]
    · rw [Cert.KernelIdeal.Hand.v_at, (hargs c).2.2.2.1]
    · rw [Cert.KernelIdeal.Hand.wo_eq, (hargs c).2.2.2.2]
      exact block_rows ..
    · rw [← e0]
      exact (hfin 0).1 _
    · have hu := (hfin (⟨u.val / 256, by omega⟩ : Fin 4)).2.1 (ix2 e (⟨u.val % 256, by omega⟩ : Fin 256))
      rw [(hargs _).2.1, block_cols] at hu
      have eu : (⟨u.val / 256 * 256 + u.val % 256, by omega⟩ : Fin 1024) = u := Fin.ext (by show _ * 256 + _ % 256 = _; omega)
      exact eu ▸ hu
    · rw [← e2]
      exact (hfin 0).2.2 _
  refine ⟨Cert.ReferenceIdeal.Value.res_out0 m' 0, ?_, ?_⟩
  · refine (θ_run Cert.KernelIdeal.defs _ _).mono (fun _ h c => ?_) (Cert.KernelIdeal.Hand.run_main (F := Ideal) m g)
    exact ⟨(h.1 c).1.trans hres, (h.1 c).2⟩
  · exact (θ_run Cert.ReferenceIdeal.defs _ _).mono (fun _ h => h 0) (Cert.ReferenceIdeal.Value.run (F := Ideal) m' g')

end Cert.Proof

end
-- ==== Proof.lean ====
module

public import proofs.«01_k».proof.Defs
public import proofs.«01_k».proof.Proof.Frames
public import proofs.«01_k».proof.Proof.Value

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  facts_finite_KernelIdeal, facts_finite_ReferenceIdeal,
  frame_kernel, frame_kernelIdeal, fun m ρ _ => frame_kernelIdeal m ρ trivial,
  frame_referenceIdeal, fun m ρ _ => frame_referenceIdeal m ρ trivial, trivial, algebraic⟩

end Cert.Proof

end
